-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMixout (m : (ℓ : Loc Cert.KernelMixout.nD Cert.KernelMixout.τ Cert.KernelMixout.sig) → Buf (Elt Bits) ℓ) : Prop :=
  True

def Pre_KernelMixoutIdeal (m : (ℓ : Loc Cert.KernelMixoutIdeal.nD Cert.KernelMixoutIdeal.τ Cert.KernelMixoutIdeal.sig) → Buf (Elt Ideal) ℓ) : Prop :=
  True

def Pre_ReferenceMixoutIdeal (m : (ℓ : Loc Cert.ReferenceMixoutIdeal.nD Cert.ReferenceMixoutIdeal.τ Cert.ReferenceMixoutIdeal.sig) → Buf (Elt Ideal) ℓ) : Prop :=
  True

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelMixout [hKernelMixout : Cert.KernelMixout.Facts] : Prop :=
  ∀ (m : (ℓ : Loc Cert.KernelMixout.nD Cert.KernelMixout.τ Cert.KernelMixout.sig) → Buf (Elt Bits) ℓ) (g : Dev Cert.KernelMixout.nD → PrngReg), Pre_KernelMixout m →
    θ_run (Cert.KernelMixout.defs (F := Bits)) (onTc (τ := Cert.KernelMixout.τ) (Cert.KernelMixout.main (F := Bits))) ⟨m, fun _ => 0, g⟩ (fun r => (∀ c : Dev Cert.KernelMixout.nD,
      r.2.mem ((c.tc : Thread Cert.KernelMixout.nD Cert.KernelMixout.τ).loc Cert.KernelMixout.main_arg0) = m ((c.tc : Thread Cert.KernelMixout.nD Cert.KernelMixout.τ).loc Cert.KernelMixout.main_arg0)
      ∧ r.2.mem ((c.tc : Thread Cert.KernelMixout.nD Cert.KernelMixout.τ).loc Cert.KernelMixout.main_arg1) = m ((c.tc : Thread Cert.KernelMixout.nD Cert.KernelMixout.τ).loc Cert.KernelMixout.main_arg1)
      ∧ r.2.mem ((c.tc : Thread Cert.KernelMixout.nD Cert.KernelMixout.τ).loc Cert.KernelMixout.main_arg2) = m ((c.tc : Thread Cert.KernelMixout.nD Cert.KernelMixout.τ).loc Cert.KernelMixout.main_arg2)
      ∧ r.2.mem ((c.tc : Thread Cert.KernelMixout.nD Cert.KernelMixout.τ).loc Cert.KernelMixout.main_arg3) = m ((c.tc : Thread Cert.KernelMixout.nD Cert.KernelMixout.τ).loc Cert.KernelMixout.main_arg3))
      ∧ r.2.sem = fun _ => 0)

def quiescent_KernelMixoutIdeal [hKernelMixoutIdeal : Cert.KernelMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg), Pre_KernelMixoutIdeal m →
    θ_run (Cert.KernelMixoutIdeal.defs (F := Ideal)) (onTc (τ := Cert.KernelMixoutIdeal.τ) (Cert.KernelMixoutIdeal.main (F := Ideal))) ⟨m, fun _ => 0, g⟩ (fun r => (∀ c : Dev Cert.KernelMixoutIdeal.nD,
      r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
      ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1)
      ∧ r.2.mem ((c.tc : Thread Cert.KernelMixoutIdeal.nD Cert.KernelMixoutIdeal.τ).loc Cert.KernelMixoutIdeal.main_arg2) = m ((c.tc : Thread Cert.KernelMixoutIdeal.nD Cert.KernelMixoutIdeal.τ).loc Cert.KernelMixoutIdeal.main_arg2)
      ∧ r.2.mem ((c.tc : Thread Cert.KernelMixoutIdeal.nD Cert.KernelMixoutIdeal.τ).loc Cert.KernelMixoutIdeal.main_arg3) = m ((c.tc : Thread Cert.KernelMixoutIdeal.nD Cert.KernelMixoutIdeal.τ).loc Cert.KernelMixoutIdeal.main_arg3))
      ∧ r.2.sem = fun _ => 0)

def quiescent_ReferenceMixoutIdeal [hReferenceMixoutIdeal : Cert.ReferenceMixoutIdeal.Facts] : Prop :=
  ∀ (m : (ℓ : Loc Cert.ReferenceMixoutIdeal.nD Cert.ReferenceMixoutIdeal.τ Cert.ReferenceMixoutIdeal.sig) → Buf (Elt Ideal) ℓ) (g : Dev Cert.ReferenceMixoutIdeal.nD → PrngReg), Pre_ReferenceMixoutIdeal m →
    θ_run (Cert.ReferenceMixoutIdeal.defs (F := Ideal)) (onTc (τ := Cert.ReferenceMixoutIdeal.τ) (Cert.ReferenceMixoutIdeal.main (F := Ideal))) ⟨m, fun _ => 0, g⟩ (fun r => (∀ c : Dev Cert.ReferenceMixoutIdeal.nD,
      r.2.mem ((c.tc : Thread Cert.ReferenceMixoutIdeal.nD Cert.ReferenceMixoutIdeal.τ).loc Cert.ReferenceMixoutIdeal.main_arg0) = m ((c.tc : Thread Cert.ReferenceMixoutIdeal.nD Cert.ReferenceMixoutIdeal.τ).loc Cert.ReferenceMixoutIdeal.main_arg0)
      ∧ r.2.mem ((c.tc : Thread Cert.ReferenceMixoutIdeal.nD Cert.ReferenceMixoutIdeal.τ).loc Cert.ReferenceMixoutIdeal.main_arg1) = m ((c.tc : Thread Cert.ReferenceMixoutIdeal.nD Cert.ReferenceMixoutIdeal.τ).loc Cert.ReferenceMixoutIdeal.main_arg1)
      ∧ r.2.mem ((c.tc : Thread Cert.ReferenceMixoutIdeal.nD Cert.ReferenceMixoutIdeal.τ).loc Cert.ReferenceMixoutIdeal.main_arg2) = m ((c.tc : Thread Cert.ReferenceMixoutIdeal.nD Cert.ReferenceMixoutIdeal.τ).loc Cert.ReferenceMixoutIdeal.main_arg2)
      ∧ r.2.mem ((c.tc : Thread Cert.ReferenceMixoutIdeal.nD Cert.ReferenceMixoutIdeal.τ).loc Cert.ReferenceMixoutIdeal.main_arg3) = m ((c.tc : Thread Cert.ReferenceMixoutIdeal.nD Cert.ReferenceMixoutIdeal.τ).loc Cert.ReferenceMixoutIdeal.main_arg3))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2)
      ∧ r.2.mem ((c.tc : Thread Cert.KernelFfnOut.nD Cert.KernelFfnOut.τ).loc Cert.KernelFfnOut.main_arg3) = m ((c.tc : Thread Cert.KernelFfnOut.nD Cert.KernelFfnOut.τ).loc Cert.KernelFfnOut.main_arg3))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2)
      ∧ r.2.mem ((c.tc : Thread Cert.KernelFfnOutIdeal.nD Cert.KernelFfnOutIdeal.τ).loc Cert.KernelFfnOutIdeal.main_arg3) = m ((c.tc : Thread Cert.KernelFfnOutIdeal.nD Cert.KernelFfnOutIdeal.τ).loc Cert.KernelFfnOutIdeal.main_arg3))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2)
      ∧ r.2.mem ((c.tc : Thread Cert.ReferenceFfnOutIdeal.nD Cert.ReferenceFfnOutIdeal.τ).loc Cert.ReferenceFfnOutIdeal.main_arg3) = m ((c.tc : Thread Cert.ReferenceFfnOutIdeal.nD Cert.ReferenceFfnOutIdeal.τ).loc Cert.ReferenceFfnOutIdeal.main_arg3))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v14) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelMixout_KernelMixoutIdeal : Prop :=
  True

def algebraic_KernelMixoutIdeal_ReferenceMixoutIdeal [hKernelMixoutIdeal : Cert.KernelMixoutIdeal.Facts] [hReferenceMixoutIdeal : Cert.ReferenceMixoutIdeal.Facts] : Prop :=
  ∀ (m : (ℓ : Loc Cert.KernelMixoutIdeal.nD Cert.KernelMixoutIdeal.τ Cert.KernelMixoutIdeal.sig) → Buf (Elt Ideal) ℓ) (g : Dev Cert.KernelMixoutIdeal.nD → PrngReg)
    (m' : (ℓ : Loc Cert.ReferenceMixoutIdeal.nD Cert.ReferenceMixoutIdeal.τ Cert.ReferenceMixoutIdeal.sig) → Buf (Elt Ideal) ℓ) (g' : Dev Cert.ReferenceMixoutIdeal.nD → PrngReg), Pre_KernelMixoutIdeal m →
    (∀ c : Dev Cert.KernelMixoutIdeal.nD,
      m' ((c.tc : Thread Cert.ReferenceMixoutIdeal.nD Cert.ReferenceMixoutIdeal.τ).loc Cert.ReferenceMixoutIdeal.main_arg0) = m ((c.tc : Thread Cert.KernelMixoutIdeal.nD Cert.KernelMixoutIdeal.τ).loc Cert.KernelMixoutIdeal.main_arg0)
      ∧ m' ((c.tc : Thread Cert.ReferenceMixoutIdeal.nD Cert.ReferenceMixoutIdeal.τ).loc Cert.ReferenceMixoutIdeal.main_arg1) = m ((c.tc : Thread Cert.KernelMixoutIdeal.nD Cert.KernelMixoutIdeal.τ).loc Cert.KernelMixoutIdeal.main_arg1)
      ∧ m' ((c.tc : Thread Cert.ReferenceMixoutIdeal.nD Cert.ReferenceMixoutIdeal.τ).loc Cert.ReferenceMixoutIdeal.main_arg2) = m ((c.tc : Thread Cert.KernelMixoutIdeal.nD Cert.KernelMixoutIdeal.τ).loc Cert.KernelMixoutIdeal.main_arg2)
      ∧ m' ((c.tc : Thread Cert.ReferenceMixoutIdeal.nD Cert.ReferenceMixoutIdeal.τ).loc Cert.ReferenceMixoutIdeal.main_arg3) = m ((c.tc : Thread Cert.KernelMixoutIdeal.nD Cert.KernelMixoutIdeal.τ).loc Cert.KernelMixoutIdeal.main_arg3)) →
    ∃ (v0 : (c : Dev Cert.KernelMixoutIdeal.nD) → Buf (Elt Ideal) ((c.tc : Thread Cert.KernelMixoutIdeal.nD Cert.KernelMixoutIdeal.τ).loc Cert.KernelMixoutIdeal.main_v0_0)) (v1 : (c : Dev Cert.KernelMixoutIdeal.nD) → Buf (Elt Ideal) ((c.tc : Thread Cert.KernelMixoutIdeal.nD Cert.KernelMixoutIdeal.τ).loc Cert.KernelMixoutIdeal.main_v0_1)),
      θ_run (Cert.KernelMixoutIdeal.defs (F := Ideal)) (onTc (τ := Cert.KernelMixoutIdeal.τ) (Cert.KernelMixoutIdeal.main (F := Ideal))) ⟨m, fun _ => 0, g⟩ (fun r => ∀ c : Dev Cert.KernelMixoutIdeal.nD,
          r.2.mem ((c.tc : Thread Cert.KernelMixoutIdeal.nD Cert.KernelMixoutIdeal.τ).loc Cert.KernelMixoutIdeal.main_v0_0) = v0 c
          ∧ r.2.mem ((c.tc : Thread Cert.KernelMixoutIdeal.nD Cert.KernelMixoutIdeal.τ).loc Cert.KernelMixoutIdeal.main_v0_1) = v1 c
          ∧ r.2.mem ((c.tc : Thread Cert.KernelMixoutIdeal.nD Cert.KernelMixoutIdeal.τ).loc Cert.KernelMixoutIdeal.main_arg0) = m ((c.tc : Thread Cert.KernelMixoutIdeal.nD Cert.KernelMixoutIdeal.τ).loc Cert.KernelMixoutIdeal.main_arg0)
          ∧ r.2.mem ((c.tc : Thread Cert.KernelMixoutIdeal.nD Cert.KernelMixoutIdeal.τ).loc Cert.KernelMixoutIdeal.main_arg1) = m ((c.tc : Thread Cert.KernelMixoutIdeal.nD Cert.KernelMixoutIdeal.τ).loc Cert.KernelMixoutIdeal.main_arg1)
          ∧ r.2.mem ((c.tc : Thread Cert.KernelMixoutIdeal.nD Cert.KernelMixoutIdeal.τ).loc Cert.KernelMixoutIdeal.main_arg2) = m ((c.tc : Thread Cert.KernelMixoutIdeal.nD Cert.KernelMixoutIdeal.τ).loc Cert.KernelMixoutIdeal.main_arg2)
          ∧ r.2.mem ((c.tc : Thread Cert.KernelMixoutIdeal.nD Cert.KernelMixoutIdeal.τ).loc Cert.KernelMixoutIdeal.main_arg3) = m ((c.tc : Thread Cert.KernelMixoutIdeal.nD Cert.KernelMixoutIdeal.τ).loc Cert.KernelMixoutIdeal.main_arg3))
      ∧ θ_run (Cert.ReferenceMixoutIdeal.defs (F := Ideal)) (onTc (τ := Cert.ReferenceMixoutIdeal.τ) (Cert.ReferenceMixoutIdeal.main (F := Ideal))) ⟨m', fun _ => 0, g'⟩ (fun r => ∀ c : Dev Cert.ReferenceMixoutIdeal.nD,
          r.2.mem ((c.tc : Thread Cert.ReferenceMixoutIdeal.nD Cert.ReferenceMixoutIdeal.τ).loc Cert.ReferenceMixoutIdeal.main_v3) = v0 c
          ∧ r.2.mem ((c.tc : Thread Cert.ReferenceMixoutIdeal.nD Cert.ReferenceMixoutIdeal.τ).loc Cert.ReferenceMixoutIdeal.main_v16) = v1 c
          ∧ r.2.mem ((c.tc : Thread Cert.ReferenceMixoutIdeal.nD Cert.ReferenceMixoutIdeal.τ).loc Cert.ReferenceMixoutIdeal.main_arg0) = m' ((c.tc : Thread Cert.ReferenceMixoutIdeal.nD Cert.ReferenceMixoutIdeal.τ).loc Cert.ReferenceMixoutIdeal.main_arg0)
          ∧ r.2.mem ((c.tc : Thread Cert.ReferenceMixoutIdeal.nD Cert.ReferenceMixoutIdeal.τ).loc Cert.ReferenceMixoutIdeal.main_arg1) = m' ((c.tc : Thread Cert.ReferenceMixoutIdeal.nD Cert.ReferenceMixoutIdeal.τ).loc Cert.ReferenceMixoutIdeal.main_arg1)
          ∧ r.2.mem ((c.tc : Thread Cert.ReferenceMixoutIdeal.nD Cert.ReferenceMixoutIdeal.τ).loc Cert.ReferenceMixoutIdeal.main_arg2) = m' ((c.tc : Thread Cert.ReferenceMixoutIdeal.nD Cert.ReferenceMixoutIdeal.τ).loc Cert.ReferenceMixoutIdeal.main_arg2)
          ∧ r.2.mem ((c.tc : Thread Cert.ReferenceMixoutIdeal.nD Cert.ReferenceMixoutIdeal.τ).loc Cert.ReferenceMixoutIdeal.main_arg3) = m' ((c.tc : Thread Cert.ReferenceMixoutIdeal.nD Cert.ReferenceMixoutIdeal.τ).loc Cert.ReferenceMixoutIdeal.main_arg3))

def preserves_KernelFfnIn_KernelFfnInIdeal : Prop :=
  True

def algebraic_KernelFfnInIdeal_ReferenceFfnInIdeal [hKernelFfnInIdeal : Cert.KernelFfnInIdeal.Facts] [hReferenceFfnInIdeal : Cert.ReferenceFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)) →
    ∃ (v0 : (c : Dev Cert.KernelFfnInIdeal.nD) → Buf (Elt Ideal) ((c.tc : Thread Cert.KernelFfnInIdeal.nD Cert.KernelFfnInIdeal.τ).loc Cert.KernelFfnInIdeal.main_v0)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v0) = v0 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v7) = v0 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)
      ∧ m' ((c.tc : Thread Cert.ReferenceFfnOutIdeal.nD Cert.ReferenceFfnOutIdeal.τ).loc Cert.ReferenceFfnOutIdeal.main_arg3) = m ((c.tc : Thread Cert.KernelFfnOutIdeal.nD Cert.KernelFfnOutIdeal.τ).loc Cert.KernelFfnOutIdeal.main_arg3)) →
    ∃ (v0 : (c : Dev Cert.KernelFfnOutIdeal.nD) → Buf (Elt Ideal) ((c.tc : Thread Cert.KernelFfnOutIdeal.nD Cert.KernelFfnOutIdeal.τ).loc Cert.KernelFfnOutIdeal.main_v0)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v0) = v0 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2)
          ∧ r.2.mem ((c.tc : Thread Cert.KernelFfnOutIdeal.nD Cert.KernelFfnOutIdeal.τ).loc Cert.KernelFfnOutIdeal.main_arg3) = m ((c.tc : Thread Cert.KernelFfnOutIdeal.nD Cert.KernelFfnOutIdeal.τ).loc Cert.KernelFfnOutIdeal.main_arg3))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v15) = v0 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2)
          ∧ r.2.mem ((c.tc : Thread Cert.ReferenceFfnOutIdeal.nD Cert.ReferenceFfnOutIdeal.τ).loc Cert.ReferenceFfnOutIdeal.main_arg3) = m' ((c.tc : Thread Cert.ReferenceFfnOutIdeal.nD Cert.ReferenceFfnOutIdeal.τ).loc Cert.ReferenceFfnOutIdeal.main_arg3))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v17) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)) →
    ∃ (v0 : (c : Dev Cert.KernelGluIdeal.nD) → Buf (Elt Ideal) ((c.tc : Thread Cert.KernelGluIdeal.nD Cert.KernelGluIdeal.τ).loc Cert.KernelGluIdeal.main_v0)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v23) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v21) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def Claim : Prop :=
  ∃ (hKernel : Cert.Kernel.Facts) (hKernelIdeal : Cert.KernelIdeal.Facts) (hReferenceIdeal : Cert.ReferenceIdeal.Facts) (hKernelMerge : Cert.KernelMerge.Facts) (hKernelMergeIdeal : Cert.KernelMergeIdeal.Facts) (hReferenceMergeIdeal : Cert.ReferenceMergeIdeal.Facts) (hKernelMixout : Cert.KernelMixout.Facts) (hKernelMixoutIdeal : Cert.KernelMixoutIdeal.Facts) (hReferenceMixoutIdeal : Cert.ReferenceMixoutIdeal.Facts) (hKernelFfnIn : Cert.KernelFfnIn.Facts) (hKernelFfnInIdeal : Cert.KernelFfnInIdeal.Facts) (hReferenceFfnInIdeal : Cert.ReferenceFfnInIdeal.Facts) (hKernelFfnOut : Cert.KernelFfnOut.Facts) (hKernelFfnOutIdeal : Cert.KernelFfnOutIdeal.Facts) (hReferenceFfnOutIdeal : Cert.ReferenceFfnOutIdeal.Facts) (hKernelQkv : Cert.KernelQkv.Facts) (hKernelQkvIdeal : Cert.KernelQkvIdeal.Facts) (hReferenceQkvIdeal : Cert.ReferenceQkvIdeal.Facts) (hKernelGlu : Cert.KernelGlu.Facts) (hKernelGluIdeal : Cert.KernelGluIdeal.Facts) (hReferenceGluIdeal : Cert.ReferenceGluIdeal.Facts) (hKernelGates : Cert.KernelGates.Facts) (hKernelGatesIdeal : Cert.KernelGatesIdeal.Facts) (hReferenceGatesIdeal : Cert.ReferenceGatesIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMixout (hKernelMixout := hKernelMixout)
    ∧ quiescent_KernelMixoutIdeal (hKernelMixoutIdeal := hKernelMixoutIdeal)
    ∧ quiescent_ReferenceMixoutIdeal (hReferenceMixoutIdeal := hReferenceMixoutIdeal)
    ∧ quiescent_KernelFfnIn (hKernelFfnIn := hKernelFfnIn)
    ∧ quiescent_KernelFfnInIdeal (hKernelFfnInIdeal := hKernelFfnInIdeal)
    ∧ quiescent_ReferenceFfnInIdeal (hReferenceFfnInIdeal := hReferenceFfnInIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMixout_KernelMixoutIdeal
    ∧ algebraic_KernelMixoutIdeal_ReferenceMixoutIdeal (hKernelMixoutIdeal := hKernelMixoutIdeal) (hReferenceMixoutIdeal := hReferenceMixoutIdeal)
    ∧ preserves_KernelFfnIn_KernelFfnInIdeal
    ∧ algebraic_KernelFfnInIdeal_ReferenceFfnInIdeal (hKernelFfnInIdeal := hKernelFfnInIdeal) (hReferenceFfnInIdeal := hReferenceFfnInIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelGlu_KernelGluIdeal
    ∧ algebraic_KernelGluIdeal_ReferenceGluIdeal (hKernelGluIdeal := hKernelGluIdeal) (hReferenceGluIdeal := hReferenceGluIdeal)
    ∧ preserves_KernelGates_KernelGatesIdeal
    ∧ algebraic_KernelGatesIdeal_ReferenceGatesIdeal (hKernelGatesIdeal := hKernelGatesIdeal) (hReferenceGatesIdeal := hReferenceGatesIdeal)
-- ==== Pre_finite.lean ====
abbrev S16384x6144 : Shape := ⟨2, ![16384, 6144]⟩
abbrev S1x128 : Shape := ⟨2, ![1, 128]⟩
abbrev S1x256 : Shape := ⟨2, ![1, 256]⟩
abbrev S_ : Shape := ⟨0, ![]⟩

class Facts : Prop where
  bitsLt_bf16_f32 : FTy.bits .bf16 < FTy.bits .f32
  bcast_S_S16384x6144 : S_.BroadcastsInDim S16384x6144 (![] : Fin 0 → Fin S16384x6144.rank)
  bcast_S_S1x128 : S_.BroadcastsInDim S1x128 (![] : Fin 0 → Fin S1x128.rank)

variable [Facts]

def fn {F : FTy → Type} [FloatOps F] (main_arg0 : FVec F S16384x6144 .bf16) (main_arg1 : FVec F S1x128 .f32) (main_arg2 : FVec F S1x128 .f32) (main_arg3 : FVec F S1x128 .f32) (main_arg4 : FVec F S1x128 .f32) (main_arg5 : FVec F S1x256 .f32) : IVec S16384x6144 1 × IVec S1x128 1 × IVec S1x128 1 × IVec S1x128 1 × IVec S1x128 1 :=
  let main_v0 : FVec F S16384x6144 .f32 := (extf .f32 · bitsLt_bf16_f32) main_arg0
  let main_v1 : FVec F S16384x6144 .f32 := Host.absf main_v0
  let main_cst : FVec F S_ .f32 := constant S_ .f32 0x7F800000#32
  let main_v2 : FVec F S16384x6144 .f32 := broadcastInDim S16384x6144 ![] bcast_S_S16384x6144 main_cst
  let main_v3 : IVec S16384x6144 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S1x128 .f32 := Host.absf main_arg3
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_v13 : FVec F S1x128 .f32 := Host.absf main_arg4
  let main_cst_3 : FVec F S_ .f32 := constant S_ .f32 0x7F800000#32
  let main_v14 : FVec F S1x128 .f32 := broadcastInDim S1x128 ![] bcast_S_S1x128 main_cst_3
  let main_v15 : IVec S1x128 1 := cmpf .olt main_v13 main_v14
  (main_v3, main_v6, main_v9, main_v12, main_v15)
-- ==== Kernel.lean ====
abbrev S16384x6144 : Shape := ⟨2, ![16384, 6144]⟩
abbrev S1x128 : Shape := ⟨2, ![1, 128]⟩
abbrev S1x256 : Shape := ⟨2, ![1, 256]⟩
abbrev S8 : Shape := ⟨1, ![8]⟩
abbrev S_ : Shape := ⟨0, ![]⟩
abbrev S512x512 : Shape := ⟨2, ![512, 512]⟩
abbrev S16384x2048 : Shape := ⟨2, ![16384, 2048]⟩
abbrev S512x256 : Shape := ⟨2, ![512, 256]⟩
abbrev S16384x256 : Shape := ⟨2, ![16384, 256]⟩
abbrev S2x512x128 : Shape := ⟨3, ![2, 512, 128]⟩
abbrev S1024x256 : Shape := ⟨2, ![1024, 256]⟩
abbrev S1 : Shape := ⟨1, ![1]⟩
abbrev S512x128 : Shape := ⟨2, ![512, 128]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩
abbrev S1024x512 : Shape := ⟨2, ![1024, 512]⟩
abbrev S1x1 : Shape := ⟨2, ![1, 1]⟩

abbrev nBuf : Space → Nat
  | .hbm => 70
  | .vmem => 17
  | .smem => 1
  | _ => 0

abbrev bufTy : (tb : Table) → Fin (tcTables nBuf tb) → BufTy
  | .hbm, ⟨0, _⟩ => ⟨S16384x6144, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i32⟩
  | .hbm, ⟨27, _⟩ => ⟨S_, .i32⟩
  | .hbm, ⟨28, _⟩ => ⟨S512x512, .i32⟩
  | .hbm, ⟨29, _⟩ => ⟨S512x512, .i1⟩
  | .hbm, ⟨30, _⟩ => ⟨S512x512, .i32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i1⟩
  | .hbm, ⟨35, _⟩ => ⟨S512x512, .i1⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S512x512, .i32⟩
  | .hbm, ⟨40, _⟩ => ⟨S_, .i32⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i1⟩
  | .hbm, ⟨48, _⟩ => ⟨S512x512, .i32⟩
  | .hbm, ⟨49, _⟩ => ⟨S512x512, .i32⟩
  | .hbm, ⟨50, _⟩ => ⟨S_, .i32⟩
  | .hbm, ⟨51, _⟩ => ⟨S512x512, .i32⟩
  | .hbm, ⟨52, _⟩ => ⟨S512x512, .i1⟩
  | .hbm, ⟨53, _⟩ => ⟨S512x512, .i1⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S_, .i32⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S512x512, .i32⟩
  | .hbm, ⟨64, _⟩ => ⟨S512x512, .f32⟩
  | .hbm, ⟨65, _⟩ => ⟨S_, .f32⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S512x512, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S2x512x128, .f32⟩
  | .local _ .vmem, ⟨15, _⟩ => ⟨S2x512x128, .f32⟩
  | .local _ .vmem, ⟨16, _⟩ => ⟨S1024x256, .f32⟩
  | .local _ .smem, ⟨0, _⟩ => ⟨S8, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v12 : Ref sig .tc := ⟨.hbm, 39, rfl⟩
abbrev main_c_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v13 : Ref sig .tc := ⟨.hbm, 57, rfl⟩
abbrev main_v14 : Ref sig .tc := ⟨.hbm, 58, rfl⟩
abbrev main_c_4 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_v20 : Ref sig .tc := ⟨.hbm, 68, rfl⟩
abbrev main_v21 : Ref sig .tc := ⟨.hbm, 69, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 32], ![false, false]⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) : Scf.Loop 32 :=
  let c0_i32_14 : BitVec 32 := 0#32
  let arg1 : BitVec 32 := BitVec.ofNat 32 (i 1).val
  let v22 : BitVec 32 := Scalar.subi arg1 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let c1_i32_15 : BitVec 32 := 1#32
  ⟨c0_i32_14, v26, c1_i32_15⟩
def k0_mult1 (i : grid0.Coords) (k0_t1 : Fin (k0_t1_loop i).trips) : BitVec 32 :=
  let c0_i32_14 : BitVec 32 := 0#32
  let c1_i32_15 : BitVec 32 := 1#32
  let arg16 : BitVec 32 := Scf.iv c0_i32_14 c1_i32_15 k0_t1
  let c512_i32_83 : BitVec 32 := 512#32
  let v153 : BitVec 32 := Scalar.muli arg16 c512_i32_83
  v153
def k0_off2 (i : grid0.Coords) (k0_t1 : Fin (k0_t1_loop i).trips) : Fin 2 → Nat :=
  let c0_i32_14 : BitVec 32 := 0#32
  let c1_i32_15 : BitVec 32 := 1#32
  let arg16 : BitVec 32 := Scf.iv c0_i32_14 c1_i32_15 k0_t1
  let c512_i32_83 : BitVec 32 := 512#32
  let v153 : BitVec 32 := Scalar.muli arg16 c512_i32_83
  let v154 : BitVec 32 := v153
  let v155 : Index := Scalar.indexCast v154
  let c0_84 : Index := 0#32
  ![v155.toNat, 0]
@[reducible] def k0_t2_loop (i : grid0.Coords) : Scf.Loop 32 :=
  let c0_i32_14 : BitVec 32 := 0#32
  let arg1 : BitVec 32 := BitVec.ofNat 32 (i 1).val
  let v22 : BitVec 32 := Scalar.subi arg1 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let v23 : BitVec 32 := Scalar.addi c0_i32_14 v22
  let c1_i32_16 : BitVec 32 := 1#32
  ⟨v26, v23, c1_i32_16⟩
def k0_mult2 (i : grid0.Coords) (k0_t2 : Fin (k0_t2_loop i).trips) : BitVec 32 :=
  let c0_i32_14 : BitVec 32 := 0#32
  let arg1 : BitVec 32 := BitVec.ofNat 32 (i 1).val
  let v22 : BitVec 32 := Scalar.subi arg1 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let c1_i32_16 : BitVec 32 := 1#32
  let arg16 : BitVec 32 := Scf.iv v26 c1_i32_16 k0_t2
  let c512_i32_83 : BitVec 32 := 512#32
  let v153 : BitVec 32 := Scalar.muli arg16 c512_i32_83
  v153
def k0_off3 (i : grid0.Coords) (k0_t2 : Fin (k0_t2_loop i).trips) : Fin 2 → Nat :=
  let c0_i32_14 : BitVec 32 := 0#32
  let arg1 : BitVec 32 := BitVec.ofNat 32 (i 1).val
  let v22 : BitVec 32 := Scalar.subi arg1 c0_i32_14
  let c1_i32 : BitVec 32 := 1#32
  let v24 : BitVec 32 := Scalar.divsi v22 c1_i32
  let v25 : BitVec 32 := Scalar.muli v24 c1_i32
  let v26 : BitVec 32 := Scalar.addi c0_i32_14 v25
  let c1_i32_16 : BitVec 32 := 1#32
  let arg16 : BitVec 32 := Scf.iv v26 c1_i32_16 k0_t2
  let c512_i32_83 : BitVec 32 := 512#32
  let v153 : BitVec 32 := Scalar.muli arg16 c512_i32_83
  let v154 : BitVec 32 := v153
  let v155 : Index := Scalar.indexCast v154
  let c0_84 : Index := 0#32
  ![v155.toNat, 0]
def k0_mult3 (i : grid0.Coords) : BitVec 32 :=
  let arg1 : BitVec 32 := BitVec.ofNat 32 (i 1).val
  let c512_i32 : BitVec 32 := 512#32
  let v27 : BitVec 32 := Scalar.muli arg1 c512_i32
  v27
def k0_off4 (i : grid0.Coords) : Fin 2 → Nat :=
  let arg1 : BitVec 32 := BitVec.ofNat 32 (i 1).val
  let c512_i32 : BitVec 32 := 512#32
  let v27 : BitVec 32 := Scalar.muli arg1 c512_i32
  let v28 : BitVec 32 := v27
  let v29 : Index := Scalar.indexCast v28
  let c0_17 : Index := 0#32
  ![v29.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x6144 : Shape := ⟨2, ![16384, 6144]⟩
abbrev S1x128 : Shape := ⟨2, ![1, 128]⟩
abbrev S1x256 : Shape := ⟨2, ![1, 256]⟩
abbrev S16384x2048 : Shape := ⟨2, ![16384, 2048]⟩
abbrev S16384x8x2x128 : Shape := ⟨4, ![16384, 8, 2, 128]⟩
abbrev S16384x8x256 : Shape := ⟨3, ![16384, 8, 256]⟩
abbrev S128 : Shape := ⟨1, ![128]⟩
abbrev S_ : Shape := ⟨0, ![]⟩
abbrev S8 : Shape := ⟨1, ![8]⟩
abbrev S8x1x1x1 : Shape := ⟨4, ![8, 1, 1, 1]⟩
abbrev S16384 : Shape := ⟨1, ![16384]⟩
abbrev S8x2x16384x16384 : Shape := ⟨4, ![8, 2, 16384, 16384]⟩
abbrev S16384x1 : Shape := ⟨2, ![16384, 1]⟩
abbrev S1x16384 : Shape := ⟨2, ![1, 16384]⟩
abbrev S16384x16384 : Shape := ⟨2, ![16384, 16384]⟩
abbrev S1x1x16384x16384 : Shape := ⟨4, ![1, 1, 16384, 16384]⟩
abbrev S8x1x16384x16384 : Shape := ⟨4, ![8, 1, 16384, 16384]⟩
abbrev S8x2x16384 : Shape := ⟨3, ![8, 2, 16384]⟩
abbrev S8x2x16384x1 : Shape := ⟨4, ![8, 2, 16384, 1]⟩
abbrev S8x16384x16384 : Shape := ⟨3, ![8, 16384, 16384]⟩
abbrev S8x256x16384 : Shape := ⟨3, ![8, 256, 16384]⟩
abbrev S256 : Shape := ⟨1, ![256]⟩
abbrev S16384x8 : Shape := ⟨2, ![16384, 8]⟩
abbrev S16384x8x1 : Shape := ⟨3, ![16384, 8, 1]⟩
abbrev S1x1x256 : Shape := ⟨3, ![1, 1, 256]⟩

abbrev nBuf : Space → Nat
  | .hbm => 153
  | .vmem => 0
  | .smem => 0
  | _ => 0

abbrev hbmTy0_0 (i : Nat) : BufTy := match i % 128 with
  | 0 => ⟨S16384x6144, .bf16⟩
  | 1 => ⟨S1x128, .f32⟩
  | 2 => ⟨S1x128, .f32⟩
  | 3 => ⟨S1x128, .f32⟩
  | 4 => ⟨S1x128, .f32⟩
  | 5 => ⟨S1x256, .f32⟩
  | 6 => ⟨S16384x6144, .f32⟩
  | 7 => ⟨S16384x2048, .f32⟩
  | 8 => ⟨S16384x2048, .f32⟩
  | 9 => ⟨S16384x2048, .f32⟩
  | 10 => ⟨S16384x8x2x128, .f32⟩
  | 11 => ⟨S16384x8x2x128, .f32⟩
  | 12 => ⟨S16384x8x256, .f32⟩
  | 13 => ⟨S128, .f32⟩
  | 14 => ⟨S128, .f32⟩
  | 15 => ⟨S128, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S8, .f32⟩
  | 42 => ⟨S8x1x1x1, .f32⟩
  | 43 => ⟨S16384, .i32⟩
  | 44 => ⟨S8x2x16384x16384, .f32⟩
  | 45 => ⟨S_, .f32⟩
  | 46 => ⟨S_, .f32⟩
  | 47 => ⟨S8x2x16384x16384, .f32⟩
  | 48 => ⟨S8x2x16384x16384, .f32⟩
  | 49 => ⟨S16384x1, .i32⟩
  | 50 => ⟨S1x16384, .i32⟩
  | 51 => ⟨S16384x16384, .i32⟩
  | 52 => ⟨S16384x16384, .i32⟩
  | 53 => ⟨S16384x16384, .i32⟩
  | 54 => ⟨S16384x16384, .i32⟩
  | 55 => ⟨S16384x16384, .f32⟩
  | 56 => ⟨S1x16384, .i32⟩
  | 57 => ⟨S_, .i32⟩
  | 58 => ⟨S_, .i32⟩
  | 59 => ⟨S1x16384, .i32⟩
  | 60 => ⟨S1x16384, .i32⟩
  | 61 => ⟨S1x16384, .i32⟩
  | 62 => ⟨S_, .i32⟩
  | 63 => ⟨S1x16384, .i32⟩
  | 64 => ⟨S1x16384, .i1⟩
  | 65 => ⟨S1x16384, .i32⟩
  | 66 => ⟨S1x16384, .i32⟩
  | 67 => ⟨S_, .i32⟩
  | 68 => ⟨S1x16384, .i32⟩
  | 69 => ⟨S1x16384, .i1⟩
  | 70 => ⟨S1x16384, .i1⟩
  | 71 => ⟨S_, .i32⟩
  | 72 => ⟨S1x16384, .i32⟩
  | 73 => ⟨S1x16384, .i32⟩
  | 74 => ⟨S1x16384, .i32⟩
  | 75 => ⟨S16384x1, .i32⟩
  | 76 => ⟨S_, .i32⟩
  | 77 => ⟨S_, .i32⟩
  | 78 => ⟨S16384x1, .i32⟩
  | 79 => ⟨S16384x1, .i32⟩
  | 80 => ⟨S16384x1, .i32⟩
  | 81 => ⟨S_, .i32⟩
  | 82 => ⟨S16384x1, .i32⟩
  | 83 => ⟨S16384x1, .i1⟩
  | 84 => ⟨S16384x1, .i32⟩
  | 85 => ⟨S16384x1, .i32⟩
  | 86 => ⟨S_, .i32⟩
  | 87 => ⟨S16384x1, .i32⟩
  | 88 => ⟨S16384x1, .i1⟩
  | 89 => ⟨S16384x1, .i1⟩
  | 90 => ⟨S_, .i32⟩
  | 91 => ⟨S16384x1, .i32⟩
  | 92 => ⟨S16384x1, .i32⟩
  | 93 => ⟨S16384x1, .i32⟩
  | 94 => ⟨S16384x16384, .i32⟩
  | 95 => ⟨S16384x16384, .i32⟩
  | 96 => ⟨S16384x16384, .i1⟩
  | 97 => ⟨S1x1x16384x16384, .f32⟩
  | 98 => ⟨S8x1x16384x16384, .f32⟩
  | 99 => ⟨S8x1x16384x16384, .f32⟩
  | 100 => ⟨S8x1x16384x16384, .f32⟩
  | 101 => ⟨S8x2x16384x16384, .f32⟩
  | 102 => ⟨S8x2x16384x16384, .f32⟩
  | 103 => ⟨S_, .f32⟩
  | 104 => ⟨S_, .f32⟩
  | 105 => ⟨S8x2x16384x16384, .i1⟩
  | 106 => ⟨S8x2x16384x16384, .f32⟩
  | 107 => ⟨S8x2x16384x16384, .f32⟩
  | 108 => ⟨S_, .f32⟩
  | 109 => ⟨S8x2x16384, .f32⟩
  | 110 => ⟨S_, .f32⟩
  | 111 => ⟨S8x2x16384, .f32⟩
  | 112 => ⟨S8x2x16384, .f32⟩
  | 113 => ⟨S8x2x16384x1, .f32⟩
  | 114 => ⟨S8x2x16384x16384, .f32⟩
  | 115 => ⟨S8x2x16384x16384, .f32⟩
  | 116 => ⟨S8x2x16384x16384, .f32⟩
  | 117 => ⟨S_, .f32⟩
  | 118 => ⟨S8x2x16384, .f32⟩
  | 119 => ⟨S8x2x16384x1, .f32⟩
  | 120 => ⟨S8x2x16384x16384, .f32⟩
  | 121 => ⟨S8x2x16384x16384, .f32⟩
  | 122 => ⟨S8x1x16384x16384, .f32⟩
  | 123 => ⟨S8x16384x16384, .f32⟩
  | 124 => ⟨S8x1x16384x16384, .f32⟩
  | 125 => ⟨S8x16384x16384, .f32⟩
  | 126 => ⟨S8x16384x16384, .f32⟩
  | 127 => ⟨S8x16384x16384, .f32⟩
  | _ => ⟨S16384x6144, .bf16⟩

abbrev hbmTy0_1 (i : Nat) : BufTy := match i % 128 with
  | 0 => ⟨S8x16384x16384, .f32⟩
  | 1 => ⟨S8x256x16384, .f32⟩
  | 2 => ⟨S16384x8x256, .f32⟩
  | 3 => ⟨S256, .f32⟩
  | 4 => ⟨S16384x8x256, .f32⟩
  | 5 => ⟨S_, .f32⟩
  | 6 => ⟨S16384x8, .f32⟩
  | 7 => ⟨S16384x8x1, .f32⟩
  | 8 => ⟨S_, .f32⟩
  | 9 => ⟨S16384x8x1, .f32⟩
  | 10 => ⟨S16384x8x1, .f32⟩
  | 11 => ⟨S_, .f32⟩
  | 12 => ⟨S16384x8x1, .f32⟩
  | 13 => ⟨S16384x8x1, .f32⟩
  | 14 => ⟨S16384x8x1, .f32⟩
  | 15 => ⟨S16384x8x256, .f32⟩
  | 16 => ⟨S16384x8x256, .f32⟩
  | 17 => ⟨S1x1x256, .f32⟩
  | 18 => ⟨S16384x8x256, .f32⟩
  | 19 => ⟨S16384x8x256, .f32⟩
  | 20 => ⟨S_, .f32⟩
  | 21 => ⟨S16384x8x256, .f32⟩
  | 22 => ⟨S16384x8x256, .f32⟩
  | 23 => ⟨S16384x2048, .f32⟩
  | 24 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_c : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_0 : Ref sig .tc := ⟨.hbm, 71, rfl⟩
abbrev main_call0_v12 : Ref sig .tc := ⟨.hbm, 72, rfl⟩
abbrev main_call0_v13 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_8 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v55 : Ref sig .tc := ⟨.hbm, 107, rfl⟩
abbrev main_cst_9 : Ref sig .tc := ⟨.hbm, 108, rfl⟩
abbrev main_v56 : Ref sig .tc := ⟨.hbm, 109, rfl⟩
abbrev main_cst_10 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_11 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_12 : Ref sig .tc := ⟨.hbm, 133, rfl⟩
abbrev main_v78 : Ref sig .tc := ⟨.hbm, 134, rfl⟩
abbrev main_v79 : Ref sig .tc := ⟨.hbm, 135, rfl⟩
abbrev main_cst_13 : Ref sig .tc := ⟨.hbm, 136, rfl⟩
abbrev main_v80 : Ref sig .tc := ⟨.hbm, 137, rfl⟩
abbrev main_v81 : Ref sig .tc := ⟨.hbm, 138, rfl⟩
abbrev main_cst_14 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_15 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩

abbrev nD : Nat := 1
abbrev τ : Topo := Topo.v7x

variable {F : FTy → Type} [FloatOps F]
-- ==== KernelMerge.lean ====
abbrev S16384x2048 : Shape := ⟨2, ![16384, 2048]⟩
abbrev S2048x2048 : Shape := ⟨2, ![2048, 2048]⟩
abbrev S1x2048 : Shape := ⟨2, ![1, 2048]⟩
abbrev S16384x4096 : Shape := ⟨2, ![16384, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .bf16⟩
  | .hbm, ⟨3, _⟩ => ⟨S2048x2048, .bf16⟩
  | .hbm, ⟨4, _⟩ => ⟨S1x2048, .f32⟩
  | .hbm, ⟨5, _⟩ => ⟨S16384x4096, .bf16⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMergeIdeal.lean ====
abbrev S16384x2048 : Shape := ⟨2, ![16384, 2048]⟩
abbrev S2048x2048 : Shape := ⟨2, ![2048, 2048]⟩
abbrev S1x2048 : Shape := ⟨2, ![1, 2048]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x2048, .bf16⟩
  | .hbm, ⟨3, _⟩ => ⟨S2048x2048, .bf16⟩
  | .hbm, ⟨4, _⟩ => ⟨S1x2048, .f32⟩
  | .hbm, ⟨5, _⟩ => ⟨S16384x4096, .bf16⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x4096, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelMixout.lean ====
abbrev S16384x2048 : Shape := ⟨2, ![16384, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S1x2048, .f32⟩
  | .hbm, ⟨4, _⟩ => ⟨S16384x2048, .f32⟩
  | .hbm, ⟨5, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMixoutIdeal.lean ====
abbrev S16384x2048 : Shape := ⟨2, ![16384, 2048]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S1x2048, .f32⟩
  | .hbm, ⟨4, _⟩ => ⟨S16384x2048, .f32⟩
  | .hbm, ⟨5, _⟩ => ⟨S2048x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelFfnIn.lean ====
abbrev S16384x2048 : Shape := ⟨2, ![16384, 2048]⟩
abbrev S2048x11264 : Shape := ⟨2, ![2048, 11264]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFfnInIdeal.lean ====
abbrev S16384x2048 : Shape := ⟨2, ![16384, 2048]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S16384x2048, .f32⟩
  | .hbm, ⟨3, _⟩ => ⟨S2048x11264, .f32⟩
  | .hbm, ⟨4, _⟩ => ⟨S16384x11264, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KernelFfnOut.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceFfnOutIdeal.lean ====
abbrev S16384x5632 : Shape := ⟨2, ![16384, 5632]⟩
abbrev S5632x2048 : Shape := ⟨2, ![5632, 2048]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 23
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S16384x2048, .f32⟩
  | .hbm, ⟨3, _⟩ => ⟨S1x2048, .f32⟩
  | .hbm, ⟨4, _⟩ => ⟨S16384x5632, .f32⟩
  | .hbm, ⟨5, _⟩ => ⟨S5632x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelQkv.lean ====
abbrev S16384x2048 : Shape := ⟨2, ![16384, 2048]⟩
abbrev S1x2048 : Shape := ⟨2, ![1, 2048]⟩
abbrev S2048x14336 : Shape := ⟨2, ![2048, 14336]⟩
abbrev S1x6144 : Shape := ⟨2, ![1, 6144]⟩
abbrev S16384x6144 : Shape := ⟨2, ![16384, 6144]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S1x6144, .f32⟩
  | .hbm, ⟨4, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c4_i32 : BitVec 32 := 4#32
  let v11 : BitVec 32 := Scalar.addi c0_i32_8 c4_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg8 : BitVec 32 := Scf.iv c0_i32_8 c1_i32 k0_t1
  let c256_i32 : BitVec 32 := 256#32
  let v12 : BitVec 32 := Scalar.muli arg8 c256_i32
  v12
def k0_off1 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c256_i32 : BitVec 32 := 256#32
  let v12 : BitVec 32 := Scalar.muli arg8 c256_i32
  let v13 : BitVec 32 := v12
  let v14 : Index := Scalar.indexCast v13
  let c0_10 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceQkvIdeal.lean ====
abbrev S16384x2048 : Shape := ⟨2, ![16384, 2048]⟩
abbrev S1x2048 : Shape := ⟨2, ![1, 2048]⟩
abbrev S2048x14336 : Shape := ⟨2, ![2048, 14336]⟩
abbrev S1x6144 : Shape := ⟨2, ![1, 6144]⟩
abbrev S_ : Shape := ⟨0, ![]⟩
abbrev S16384 : Shape := ⟨1, ![16384]⟩
abbrev S16384x1 : Shape := ⟨2, ![16384, 1]⟩
abbrev S16384x14336 : Shape := ⟨2, ![16384, 14336]⟩
abbrev S16384x6144 : Shape := ⟨2, ![16384, 6144]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S1x6144, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S2048x14336, .f32⟩
  | .hbm, ⟨20, _⟩ => ⟨S16384x14336, .f32⟩
  | .hbm, ⟨21, _⟩ => ⟨S16384x6144, .f32⟩
  | .hbm, ⟨22, _⟩ => ⟨S16384x6144, .f32⟩
  | .hbm, ⟨23, _⟩ => ⟨S16384x6144, .f32⟩
  | .hbm, ⟨24, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelGlu.lean ====
abbrev S16384x2048 : Shape := ⟨2, ![16384, 2048]⟩
abbrev S1x2048 : Shape := ⟨2, ![1, 2048]⟩
abbrev S2048x14336 : Shape := ⟨2, ![2048, 14336]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c4_i32 : BitVec 32 := 4#32
  let v18 : BitVec 32 := Scalar.addi c0_i32_12 c4_i32
  let c1_i32 : BitVec 32 := 1#32
  ⟨c0_i32_12, v18, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c256_i32 : BitVec 32 := 256#32
  let v19 : BitVec 32 := Scalar.muli arg8 c256_i32
  v19
def k0_off1 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v19 : BitVec 32 := Scalar.muli arg8 c256_i32
  let v20 : BitVec 32 := v19
  let v21 : Index := Scalar.indexCast v20
  let c0_14 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGluIdeal.lean ====
abbrev S16384x2048 : Shape := ⟨2, ![16384, 2048]⟩
abbrev S1x2048 : Shape := ⟨2, ![1, 2048]⟩
abbrev S2048x14336 : Shape := ⟨2, ![2048, 14336]⟩
abbrev S_ : Shape := ⟨0, ![]⟩
abbrev S16384 : Shape := ⟨1, ![16384]⟩
abbrev S16384x1 : Shape := ⟨2, ![16384, 1]⟩
abbrev S16384x14336 : Shape := ⟨2, ![16384, 14336]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x14336, .f32⟩
  | .hbm, ⟨19, _⟩ => ⟨S16384x14336, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KernelGates.lean ====
abbrev S16384x2048 : Shape := ⟨2, ![16384, 2048]⟩
abbrev S1x2048 : Shape := ⟨2, ![1, 2048]⟩
abbrev S2048x14336 : Shape := ⟨2, ![2048, 14336]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c4_i32 : BitVec 32 := 4#32
  let v15 : BitVec 32 := Scalar.addi c0_i32_9 c4_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c256_i32 : BitVec 32 := 256#32
  let v16 : BitVec 32 := Scalar.muli arg7 c256_i32
  v16
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c256_i32 : BitVec 32 := 256#32
  let v16 : BitVec 32 := Scalar.muli arg7 c256_i32
  let v17 : BitVec 32 := v16
  let v18 : Index := Scalar.indexCast v17
  let c0_11 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGatesIdeal.lean ====
abbrev S16384x2048 : Shape := ⟨2, ![16384, 2048]⟩
abbrev S1x2048 : Shape := ⟨2, ![1, 2048]⟩
abbrev S2048x14336 : Shape := ⟨2, ![2048, 14336]⟩
abbrev S_ : Shape := ⟨0, ![]⟩
abbrev S16384 : Shape := ⟨1, ![16384]⟩
abbrev S16384x1 : Shape := ⟨2, ![16384, 1]⟩
abbrev S16384x14336 : Shape := ⟨2, ![16384, 14336]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x14336, .f32⟩
  | .hbm, ⟨19, _⟩ => ⟨S16384x14336, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Softmax.lean ====
/- The online softmax over the extended reals, for one query row.

   A row of the kernel carries a running maximum `m`, a running denominator `l` and a running numerator `a` per
   column of v.  All three are read here as one real sum scaled by `2 ^ (-m)`: `l = S * 2 ^ (-μ)`, `a = T * 2 ^ (-μ)`
   with `m = μ` real.  One block of keys keeps that form (`step_max`, `step_sum`, `step_mul_sum`), the maximum cancels
   in the quotient (`quot`), and the reference's softmax has the same quotient (`soft_sum`). -/
module

public import Idealize.ShloMosaic.PureOps.Ideal

@[expose] public section

noncomputable section

namespace Cert.Softmax

open Idealize.ShloMosaic

/-- The weight `2 ^ s` of a score `s` below `⊤`, as a real: zero for a masked score. -/
def wt (s : EReal) : ℝ := (Ideal.exp2 s).toReal

theorem exp2_bot : Ideal.exp2 ⊥ = 0 := rfl
theorem exp2_top : Ideal.exp2 ⊤ = ⊤ := rfl
theorem exp2_coe (r : ℝ) : Ideal.exp2 (r : EReal) = (((2 : ℝ) ^ r : ℝ) : EReal) := rfl
theorem exp_bot : Ideal.exp ⊥ = 0 := rfl
theorem exp_top : Ideal.exp ⊤ = ⊤ := rfl
theorem exp_coe (r : ℝ) : Ideal.exp (r : EReal) = ((Real.exp r : ℝ) : EReal) := rfl

theorem wt_bot : wt ⊥ = 0 := by simp [wt, exp2_bot]

theorem wt_coe (r : ℝ) : wt (r : EReal) = (2 : ℝ) ^ r := by rw [wt, exp2_coe, EReal.toReal_coe]

theorem wt_nonneg (s : EReal) : 0 ≤ wt s := by
  induction s with
  | bot => simp [wt_bot]
  | coe r => rw [wt_coe]; positivity
  | top => simp [wt, exp2_top]

/-- Subtracting the maximum scales the weight. -/
theorem exp2_sub {s : EReal} (hs : s ≠ ⊤) (μ : ℝ) :
    Ideal.exp2 (s - (μ : EReal)) = ((wt s * (2 : ℝ) ^ (-μ) : ℝ) : EReal) := by
  induction s with
  | bot => rw [EReal.bot_sub, exp2_bot, wt_bot, zero_mul, EReal.coe_zero]
  | coe r =>
    rw [wt_coe, ← EReal.coe_sub]
    show ((Real.rpow 2 (r - μ) : ℝ) : EReal) = _
    rw [← Real.rpow_add (by norm_num : (0 : ℝ) < 2), ← sub_eq_add_neg]; rfl
  | top => exact absurd rfl hs

/-- A finite sum of reals, coerced. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum of a real and finitely many scores below `⊤` is real. -/
theorem max_fold_real {ι : Type*} (s : Finset ι) (f : ι → EReal) (hf : ∀ c ∈ s, f c ≠ ⊤) (μ : ℝ) :
    ∃ ν : ℝ, max (μ : EReal) (s.fold max ⊥ f) = (ν : EReal) := by
  have hlt : max (μ : EReal) (s.fold max ⊥ f) < ⊤ :=
    max_lt (EReal.coe_lt_top μ) ((Finset.fold_max_lt _).2 ⟨bot_lt_top, fun c hc => lt_top_iff_ne_top.2 (hf c hc)⟩)
  have hgt : ⊥ < max (μ : EReal) (s.fold max ⊥ f) := lt_of_lt_of_le (EReal.bot_lt_coe μ) (le_max_left _ _)
  exact ⟨_, (EReal.coe_toReal hlt.ne hgt.ne').symm⟩

/-- The maximum of finitely many scores below `⊤`, one of them real, is real. -/
theorem fold_real {ι : Type*} (s : Finset ι) (f : ι → EReal) (hf : ∀ c ∈ s, f c ≠ ⊤) {c₀ : ι} (h₀ : c₀ ∈ s)
    (hb : f c₀ ≠ ⊥) : ∃ ν : ℝ, s.fold max ⊥ f = (ν : EReal) := by
  have hlt : s.fold max ⊥ f < ⊤ :=
    (Finset.fold_max_lt _).2 ⟨bot_lt_top, fun c hc => lt_top_iff_ne_top.2 (hf c hc)⟩
  have hgt : ⊥ < s.fold max ⊥ f := by
    rw [Finset.lt_fold_max]; exact Or.inr ⟨c₀, h₀, bot_lt_iff_ne_bot.2 hb⟩
  exact ⟨_, (EReal.coe_toReal hlt.ne hgt.ne').symm⟩

/-- What the state of a row says: the maximum `m` is a real `μ` and `x` is the sum `S` scaled by `2 ^ (-μ)`. -/
def Scaled (μ : ℝ) (x : EReal) (S : ℝ) : Prop := x = ((S * (2 : ℝ) ^ (-μ) : ℝ) : EReal)

theorem scaled_zero (μ : ℝ) : Scaled μ 0 0 := by simp [Scaled]

/-- The rescaling factor of one block. -/
theorem alpha (μ σ ν : ℝ) : Ideal.exp2 ((μ : EReal) - (σ : EReal) - (ν : EReal))
    = (((2 : ℝ) ^ (μ - σ - ν) : ℝ) : EReal) := by
  rw [← EReal.coe_sub, ← EReal.coe_sub]; rfl

/-- One block of keys on the denominator. -/
theorem step_sum {ι : Type*} [Fintype ι] {μ σ ν : ℝ} {l : EReal} {S : ℝ} (hl : Scaled μ l S) (s : ι → EReal)
    (hs : ∀ c, s c ≠ ⊤) :
    Scaled ν (Ideal.exp2 ((μ : EReal) - (σ : EReal) - (ν : EReal)) * l + ∑ c, Ideal.exp2 (s c - (ν : EReal)))
      (S * (2 : ℝ) ^ (-σ) + ∑ c, wt (s c)) := by
  unfold Scaled at hl ⊢
  rw [alpha, hl, Finset.sum_congr rfl fun c _ => exp2_sub (hs c) ν, ← coe_sum, ← EReal.coe_mul, ← EReal.coe_add,
    EReal.coe_eq_coe_iff, ← Finset.sum_mul, add_mul]
  congr 1
  have h2 : (0 : ℝ) < 2 := by norm_num
  rw [mul_left_comm, ← Real.rpow_add h2, mul_assoc, ← Real.rpow_add h2]
  congr 2; ring

/-- One block of keys on the numerator. -/
theorem step_mul_sum {ι : Type*} [Fintype ι] {μ σ ν : ℝ} {a : EReal} {T : ℝ} (ha : Scaled μ a T) (s : ι → EReal)
    (hs : ∀ c, s c ≠ ⊤) (v : ι → ℝ) :
    Scaled ν (a * Ideal.exp2 ((μ : EReal) - (σ : EReal) - (ν : EReal))
        + ∑ c, Ideal.exp2 (s c - (ν : EReal)) * ((v c : ℝ) : EReal))
      (T * (2 : ℝ) ^ (-σ) + ∑ c, wt (s c) * v c) := by
  unfold Scaled at ha ⊢
  rw [alpha, ha, Finset.sum_congr rfl fun c _ => by rw [exp2_sub (hs c) ν, ← EReal.coe_mul], ← coe_sum,
    ← EReal.coe_mul, ← EReal.coe_add, EReal.coe_eq_coe_iff, add_mul, Finset.sum_mul]
  have h2 : (0 : ℝ) < 2 := by norm_num
  congr 1
  · rw [mul_assoc, ← Real.rpow_add h2, mul_assoc, ← Real.rpow_add h2]
    congr 2; ring
  · exact Finset.sum_congr rfl fun c _ => by ring

/-- The quotient of two reals. -/
theorem div_real (a : ℝ) {b : ℝ} (hb : b ≠ 0) : Ideal.div (a : EReal) (b : EReal) = ((a / b : ℝ) : EReal) := by
  rw [Ideal.div_coe hb, ← EReal.coe_mul, one_div, div_eq_mul_inv]

/-- The maximum cancels in the quotient of numerator and denominator. -/
theorem quot {μ : ℝ} {a l : EReal} {T S : ℝ} (ha : Scaled μ a T) (hl : Scaled μ l S) (hS : S ≠ 0) :
    Ideal.div a l = ((T / S : ℝ) : EReal) := by
  have h2 : (2 : ℝ) ^ (-μ) ≠ 0 := (Real.rpow_pos_of_pos (by norm_num) _).ne'
  rw [ha, hl, div_real _ (mul_ne_zero hS h2), mul_div_mul_right _ _ h2]

/-- The weight `e ^ t` of a score `t` in nats, as a real: zero for a masked score. -/
def ewt (t : EReal) : ℝ := (Ideal.exp t).toReal

theorem ewt_bot : ewt ⊥ = 0 := by simp [ewt, exp_bot]

theorem ewt_coe (r : ℝ) : ewt (r : EReal) = Real.exp r := by rw [ewt, exp_coe, EReal.toReal_coe]

theorem ewt_nonneg (s : EReal) : 0 ≤ ewt s := by
  induction s with
  | bot => simp [ewt_bot]
  | coe r => rw [ewt_coe]; positivity
  | top => simp [ewt, exp_top]

theorem exp_sub {t : EReal} (ht : t ≠ ⊤) (μ : ℝ) :
    Ideal.exp (t - (μ : EReal)) = ((ewt t * Real.exp (-μ) : ℝ) : EReal) := by
  induction t with
  | bot => rw [EReal.bot_sub, exp_bot, ewt_bot, zero_mul, EReal.coe_zero]
  | coe r =>
    rw [ewt_coe, ← EReal.coe_sub]
    show ((Real.exp (r - μ) : ℝ) : EReal) = _
    rw [← Real.exp_add, ← sub_eq_add_neg]
  | top => exact absurd rfl ht

/-- The reference's softmax: with the row's maximum subtracted and the row's sum divided out, the probability of a
    key is its weight over the sum of the weights. -/
theorem soft {ι : Type*} [Fintype ι] (t : ι → EReal) (ht : ∀ c, t c ≠ ⊤) {c₀ : ι} (h₀ : t c₀ ≠ ⊥) (c : ι) :
    Ideal.div (Ideal.exp (t c - max ⊥ (Finset.univ.fold max ⊥ t)))
        (0 + ∑ c', Ideal.exp (t c' - max ⊥ (Finset.univ.fold max ⊥ t)))
      = ((ewt (t c) / ∑ c', ewt (t c') : ℝ) : EReal) := by
  obtain ⟨ν, hν⟩ := fold_real Finset.univ t (fun c _ => ht c) (Finset.mem_univ c₀) h₀
  rw [hν, max_eq_right bot_le, zero_add, Finset.sum_congr rfl fun c' _ => exp_sub (ht c') ν, exp_sub (ht c) ν,
    ← coe_sum, ← Finset.sum_mul]
  have hpos : 0 < ∑ c', ewt (t c') := by
    refine Finset.sum_pos' (fun c _ => ewt_nonneg _) ⟨c₀, Finset.mem_univ _, ?_⟩
    rw [← EReal.coe_toReal (ht c₀) h₀, ewt_coe]
    positivity
  have he : Real.exp (-ν) ≠ 0 := (Real.exp_pos _).ne'
  rw [div_real _ (mul_ne_zero hpos.ne' he), mul_div_mul_right _ _ he]

end Cert.Softmax

end
-- ==== Proof.Step.lean ====
/- One block of keys: what the kernel makes of its running maxima, sums and weighted sums of values.

   The loop over the whole blocks and the block on the diagonal run the same operations on another score matrix, so
   they are defined here once over any score matrix, and read at an index. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Step

open Idealize.ShloMosaic Idealize.SL.Sem Cert.KernelIdeal.Gen Cert.Softmax

/-- The pattern of minus infinity. -/
theorem negInf : Ideal.ofBits .f32 0xFF800000#32 = ⊥ := by simp [Ideal.ofBits, Ideal.ieee]

/-- The new running maximum of every row: the old one less the shift, or the block's largest score. -/
def newMax (shift : Ideal .f32) (m : FVec Ideal S1x512x128 .f32) (s : FVec Ideal S512x512 .f32) : FVec Ideal S512x128 .f32 :=
  maximumf (subf (shapeCast S512x128 m shapeCasts_S1x512x128_S512x128) (broadcast S512x128 shift))
    (broadcastTo S512x128 (shapeCast S512x1
      (multiReduction .maximumf [1] S512 s 0xFF800000#32 reduces_S512x512_S512 (.inl rfl) rfl) shapeCasts_S512_S512x1)
      broadcasts_S512x1_S512x128)

/-- The factor that moves the old sums to the new maximum. -/
def decay (shift : Ideal .f32) (m : FVec Ideal S1x512x128 .f32) (s : FVec Ideal S512x512 .f32) : FVec Ideal S512x128 .f32 :=
  exp2 (subf (subf (shapeCast S512x128 m shapeCasts_S1x512x128_S512x128) (broadcast S512x128 shift)) (newMax shift m s))

/-- The block's weights: two to the scores less the new maximum. -/
def weights (shift : Ideal .f32) (m : FVec Ideal S1x512x128 .f32) (s : FVec Ideal S512x512 .f32) : FVec Ideal S512x512 .f32 :=
  exp2 (subf s (concatenate S512x512 1 [⟨S512x128, newMax shift m s⟩, ⟨S512x128, newMax shift m s⟩,
    ⟨S512x128, newMax shift m s⟩, ⟨S512x128, newMax shift m s⟩]
    concatenates_S512x128_S512x128_S512x128_S512x128_S512x512_d1))

/-- The new maximum as it is stored. -/
def maxSlab (shift : Ideal .f32) (m : FVec Ideal S1x512x128 .f32) (s : FVec Ideal S512x512 .f32) : FVec Ideal S1x512x128 .f32 :=
  shapeCast S1x512x128 (newMax shift m s) shapeCasts_S512x128_S1x512x128

/-- The new sum of the weights as it is stored. -/
def sumSlab (shift : Ideal .f32) (m l : FVec Ideal S1x512x128 .f32) (s : FVec Ideal S512x512 .f32) : FVec Ideal S1x512x128 .f32 :=
  shapeCast S1x512x128
    (addf (mulf (decay shift m s) (shapeCast S512x128 l shapeCasts_S1x512x128_S512x128))
      (broadcastTo S512x128 (shapeCast S512x1
        (multiReduction .add [1] S512 (weights shift m s) 0x00000000#32 reduces_S512x512_S512 (.inl rfl) rfl)
        shapeCasts_S512_S512x1) broadcasts_S512x1_S512x128))
    shapeCasts_S512x128_S1x512x128

/-- The new weighted sums of the values, both maps stacked. -/
def newAcc (shift : Ideal .f32) (m : Fin 2 → FVec Ideal S1x512x128 .f32) (s : Fin 2 → FVec Ideal S512x512 .f32)
    (acc : FVec Ideal S1024x256 .f32) (v : FVec Ideal S512x256 .bf16) : FVec Ideal S1024x256 .f32 :=
  addf
    (mulf acc (concatenate S1024x256 0
      [⟨S512x256, concatenate S512x256 1 [⟨S512x128, decay shift (m 0) (s 0)⟩, ⟨S512x128, decay shift (m 0) (s 0)⟩]
          concatenates_S512x128_S512x128_S512x256_d1⟩,
        ⟨S512x256, concatenate S512x256 1 [⟨S512x128, decay shift (m 1) (s 1)⟩, ⟨S512x128, decay shift (m 1) (s 1)⟩]
          concatenates_S512x128_S512x128_S512x256_d1⟩]
      concatenates_S512x256_S512x256_S1024x256_d0))
    (matmul dot_S1024x512_S512x256_S1024x256_1_0_0_1_n_n none
      (concatenate S1024x512 0 [⟨S512x512, truncf .bf16 (weights shift (m 0) (s 0)) bitsLt_bf16_f32⟩,
        ⟨S512x512, truncf .bf16 (weights shift (m 1) (s 1)) bitsLt_bf16_f32⟩] concatenates_S512x512_S512x512_S1024x512_d0)
      v (constant S1024x256 .f32 0x00000000#32))

/-- Row `r` of map `j` among the stacked rows. -/
def row (j : Fin 2) (r : Fin 512) : Fin 1024 := ⟨j.val * 512 + r.val, by omega⟩

/-! ## At an index -/

section At
variable (shift : Ideal .f32) (m l : FVec Ideal S1x512x128 .f32) (s : FVec Ideal S512x512 .f32) (r : Fin 512)

theorem newMax_at (a : Fin 128) : newMax shift m s (ix2 r a)
    = max (m (ix3 0 r a) - shift) (Finset.univ.fold max ⊥ fun c => s (ix2 r c)) := by
  pointwise [newMax]
  rw [negInf]

theorem decay_at (a : Fin 128) : decay shift m s (ix2 r a) = Ideal.exp2 (m (ix3 0 r a) - shift - newMax shift m s (ix2 r a)) := by
  pointwise [decay]
  rfl

theorem maxSlab_at (a : Fin 128) : maxSlab shift m s (ix3 0 r a) = newMax shift m s (ix2 r a) := by
  pointwise [maxSlab]

theorem sumSlab_at (a : Fin 128) : sumSlab shift m l s (ix3 0 r a)
    = decay shift m s (ix2 r a) * l (ix3 0 r a) + ∑ c, weights shift m s (ix2 r c) := by
  pointwise [sumSlab]

/-- The weights where the maximum is the same in every lane of a row. -/
theorem weights_at (ν : Ideal .f32) (hν : ∀ a, newMax shift m s (ix2 r a) = ν) (c : Fin 512) :
    weights shift m s (ix2 r c) = Ideal.exp2 (s (ix2 r c) - ν) := by
  pointwise [weights]
  simp only [hν, dite_eq_ite, ite_self]
  rfl

end At

/-- The stacked weighted sums, at row `r` of map `j`. -/
theorem newAcc_at (shift : Ideal .f32) (m : Fin 2 → FVec Ideal S1x512x128 .f32) (s : Fin 2 → FVec Ideal S512x512 .f32)
    (acc : FVec Ideal S1024x256 .f32) (v : FVec Ideal S512x256 .bf16) (j : Fin 2) (r : Fin 512) (e : Fin 256)
    (α : Ideal .f32) (hα : ∀ a, decay shift (m j) (s j) (ix2 r a) = α) :
    newAcc shift m s acc v (ix2 (row j r) e)
      = acc (ix2 (row j r) e) * α + ∑ c, weights shift (m j) (s j) (ix2 r c) * v (ix2 c e) := by
  have h0 : ¬ 512 + r.val < 512 := by omega
  fin_cases j
  all_goals
    pointwise [newAcc]
    simp [row, hα, h0] at hα ⊢
  all_goals simp [hα]

/-! ## A row through a block -/

/-- One row of one map through a block: there is a real maximum, the same in every lane; the factor and the weights are
    taken at it, and the sum of the weights gains the block's. -/
theorem row_step (σ μ : ℝ) (m l : FVec Ideal S1x512x128 .f32) (s : FVec Ideal S512x512 .f32) (r : Fin 512)
    (hs : ∀ c, s (ix2 r c) ≠ ⊤) (hm : ∀ a, m (ix3 0 r a) = (μ : EReal)) :
    ∃ ν : ℝ, (∀ a, maxSlab (σ : EReal) m s (ix3 0 r a) = (ν : EReal))
      ∧ (∀ a, decay (σ : EReal) m s (ix2 r a) = Ideal.exp2 ((μ : EReal) - σ - ν))
      ∧ (∀ c, weights (σ : EReal) m s (ix2 r c) = Ideal.exp2 (s (ix2 r c) - (ν : EReal)))
      ∧ ∀ T a, Scaled μ (l (ix3 0 r a)) T →
          Scaled ν (sumSlab (σ : EReal) m l s (ix3 0 r a)) (T * 2 ^ (-σ) + ∑ c, wt (s (ix2 r c))) := by
  obtain ⟨ν, hν⟩ := max_fold_real Finset.univ (fun c => s (ix2 r c)) (fun c _ => hs c) (μ - σ)
  have hM : ∀ a, newMax (σ : EReal) m s (ix2 r a) = (ν : EReal) := fun a => by
    rw [newMax_at, hm, ← hν, EReal.coe_sub]
  have hw := weights_at (σ : EReal) m s r _ hM
  have hd : ∀ a, decay (σ : EReal) m s (ix2 r a) = Ideal.exp2 ((μ : EReal) - σ - ν) := fun a => by
    rw [decay_at, hM, hm]
  refine ⟨ν, fun a => by rw [maxSlab_at, hM], hd, hw, fun T a hl => ?_⟩
  rw [sumSlab_at, hd]
  simp only [hw]
  exact step_sum hl _ hs

/-- What the three scratch buffers hold: of each row of each map the maximum so far (any real, the same in every lane),
    and relative to it the sum `T` of the weights and the weighted sums `U` of the values. -/
def State (m l : FVec Ideal S2x512x128 .f32) (acc : FVec Ideal S1024x256 .f32) (T : Fin 2 → Fin 512 → ℝ)
    (U : Fin 2 → Fin 512 → Fin 256 → ℝ) : Prop :=
  ∀ j r, ∃ μ : ℝ, (∀ a, m (ix3 j r a) = (μ : EReal)) ∧ (∀ a, Scaled μ (l (ix3 j r a)) (T j r))
    ∧ ∀ e, Scaled μ (acc (ix2 (row j r) e)) (U j r e)

/-- The scratch buffers through a block. -/
theorem State.step {m l m' l' : FVec Ideal S2x512x128 .f32} {acc acc' : FVec Ideal S1024x256 .f32} {T : Fin 2 → Fin 512 → ℝ}
    {U : Fin 2 → Fin 512 → Fin 256 → ℝ} (h : State m l acc T U) (σ : ℝ) (M L : Fin 2 → FVec Ideal S1x512x128 .f32)
    (s : Fin 2 → FVec Ideal S512x512 .f32) (v : FVec Ideal S512x256 .bf16) (w : Fin 512 → Fin 256 → ℝ)
    (hs : ∀ j r c, s j (ix2 r c) ≠ ⊤) (hv : ∀ c e, v (ix2 c e) = (w c e : EReal))
    (hM : ∀ j r a, M j (ix3 0 r a) = m (ix3 j r a)) (hL : ∀ j r a, L j (ix3 0 r a) = l (ix3 j r a))
    (hm' : ∀ j r a, m' (ix3 j r a) = maxSlab (σ : EReal) (M j) (s j) (ix3 0 r a))
    (hl' : ∀ j r a, l' (ix3 j r a) = sumSlab (σ : EReal) (M j) (L j) (s j) (ix3 0 r a))
    (ha' : ∀ j r e, acc' (ix2 (row j r) e) = newAcc (σ : EReal) M s acc v (ix2 (row j r) e)) :
    State m' l' acc' (fun j r => T j r * 2 ^ (-σ) + ∑ c, wt (s j (ix2 r c)))
      (fun j r e => U j r e * 2 ^ (-σ) + ∑ c, wt (s j (ix2 r c)) * w c e) := by
  intro j r
  obtain ⟨μ, hμ, hT, hU⟩ := h j r
  obtain ⟨ν, h1, h2, h3, h4⟩ := row_step σ μ (M j) (L j) (s j) r (hs j r) (fun a => by rw [hM, hμ])
  refine ⟨ν, fun a => by rw [hm', h1], fun a => by rw [hl']; exact h4 _ _ (by rw [hL]; exact hT a), fun e => ?_⟩
  rw [ha', newAcc_at _ _ _ _ _ _ _ _ _ h2]
  simp only [h3, hv]
  exact step_mul_sum (hU e) _ (hs j r) _

end Cert.KernelIdeal.Step
-- ==== Proof.Keys.lean ====
/- The sums over the keys, in the reals: the kernel's, block by block in base two with the position bias measured from
   the block it is at, and the reference's, over all keys at once in base e with the bias measured from the query.

   `σ n` is the product of the query with key `n`, `ν n` the value summed (one column of v, or one for the
   denominator), `a` the slope over ln 2. -/
module

public import Mathlib.Analysis.SpecialFunctions.Pow.Real
public import Mathlib.Algebra.BigOperators.Intervals

@[expose] public section

noncomputable section

namespace Cert.Keys

/-- The first `k` blocks' sum, the bias measured from key zero. -/
def full (a : ℝ) (σ ν : ℕ → ℝ) (k : ℕ) : ℝ := ∑ n ∈ Finset.range (512 * k), (2 : ℝ) ^ (σ n + a * n) * ν n

/-- The state after `k` blocks: the bias is measured from the first key of block `k - 1`. -/
def part (a : ℝ) (σ ν : ℕ → ℝ) (k : ℕ) : ℝ := full a σ ν k * (2 : ℝ) ^ (a * 512 - a * 512 * k)

theorem part_zero (a : ℝ) (σ ν : ℕ → ℝ) : part a σ ν 0 = 0 := by simp [part, full]

theorem two_pos : (0 : ℝ) < 2 := by norm_num

/-- A sum over the first keys, one block more. -/
theorem range_block (f : ℕ → ℝ) (k : ℕ) :
    ∑ n ∈ Finset.range (512 * (k + 1)), f n
      = ∑ n ∈ Finset.range (512 * k), f n + ∑ c : Fin 512, f (512 * k + c) := by
  rw [Nat.mul_succ, Finset.sum_range_add, Finset.sum_range (fun x => f (512 * k + x))]

/-- One full block on the state. -/
theorem part_succ (a : ℝ) (σ ν : ℕ → ℝ) (k : ℕ) :
    part a σ ν k * (2 : ℝ) ^ (-(a * 512))
        + ∑ c : Fin 512, (2 : ℝ) ^ (σ (512 * k + c) + a * (c : ℕ)) * ν (512 * k + c)
      = part a σ ν (k + 1) := by
  unfold part full
  rw [range_block, add_mul]
  congr 1
  · rw [mul_assoc, ← Real.rpow_add two_pos]
    congr 2; push_cast; ring
  · rw [Finset.sum_mul]
    refine Finset.sum_congr rfl fun c _ => ?_
    rw [mul_right_comm, ← Real.rpow_add two_pos]
    congr 2; push_cast; ring

/-- Whether key `n` is within or before the chunk of query `q`. -/
abbrev ok (q n : ℕ) : Prop := n / 64 ≤ q / 64

/-- The state after the diagonal block `i`, for the query in row `r` of it. -/
def total (a : ℝ) (σ ν : ℕ → ℝ) (i r : ℕ) : ℝ :=
  part a σ ν i * (2 : ℝ) ^ (-(a * 512))
    + ∑ c : Fin 512, (if ok r c then (2 : ℝ) ^ (σ (512 * i + c) + a * ((min (c : ℤ) (2 * r - c) : ℤ) : ℝ)) else 0)
        * ν (512 * i + c)

/-- The reference's weight of key `n` for query `q`. -/
def weight (s : ℝ) (σ : ℕ → ℝ) (q n : ℕ) : ℝ :=
  if ok q n then Real.exp (σ n * Real.log 2 - s * ((|(q : ℤ) - n| : ℤ) : ℝ)) else 0

theorem exp_eq (x : ℝ) : Real.exp (x * Real.log 2) = (2 : ℝ) ^ x := by
  rw [Real.rpow_def_of_pos two_pos, mul_comm]

theorem weight_eq (s : ℝ) (σ : ℕ → ℝ) (q n : ℕ) : weight s σ q n
    = if ok q n then (2 : ℝ) ^ (σ n - s * (Real.log 2)⁻¹ * ((|(q : ℤ) - n| : ℤ) : ℝ)) else 0 := by
  have hl : Real.log 2 ≠ 0 := (Real.log_pos (by norm_num)).ne'
  unfold weight
  rw [← exp_eq]
  congr 3
  field_simp

/-- The bias of the diagonal block is the distance, up to the row. -/
theorem bias_eq (r c : ℕ) : (min (c : ℤ) (2 * r - c) : ℤ) = r - |(r : ℤ) - c| := by
  rcases le_total c r with h | h
  · rw [abs_of_nonneg (by omega)]; omega
  · rw [abs_of_nonpos (by omega)]; omega

/-- The reference's sum over all keys is the kernel's, up to a factor that the quotient loses. -/
theorem sum_weight (s : ℝ) (σ ν : ℕ → ℝ) (i r : ℕ) (hi : i < 32) (hr : r < 512) :
    ∑ n : Fin 16384, weight s σ (512 * i + r) n * ν n
      = total (s * (Real.log 2)⁻¹) σ ν i r * (2 : ℝ) ^ (-(s * (Real.log 2)⁻¹ * r)) := by
  set a := s * (Real.log 2)⁻¹ with ha
  rw [← Finset.sum_range (fun n => weight s σ (512 * i + r) n * ν n)]
  have hsub : Finset.range (512 * (i + 1)) ⊆ Finset.range 16384 := by
    intro n hn; rw [Finset.mem_range] at hn ⊢; omega
  rw [← Finset.sum_subset hsub fun n _ hn => ?_, range_block]
  · unfold total part full
    rw [add_mul]
    congr 1
    · rw [mul_assoc, ← Real.rpow_add two_pos, mul_assoc, ← Real.rpow_add two_pos, Finset.sum_mul]
      refine Finset.sum_congr rfl fun n hn => ?_
      rw [Finset.mem_range] at hn
      have hok : ok (512 * i + r) n := Nat.div_le_div_right (by omega)
      rw [weight_eq, ← ha, if_pos hok, mul_right_comm _ (ν n), ← Real.rpow_add two_pos, abs_of_nonneg (by omega)]
      congr 2; push_cast; ring
    · rw [Finset.sum_mul]
      refine Finset.sum_congr rfl fun c _ => ?_
      have hc := c.isLt
      have hok : ok (512 * i + r) (512 * i + c) ↔ ok r c := by unfold ok; omega
      rw [weight_eq, ← ha, mul_right_comm _ (ν _)]
      congr 1
      by_cases h : ok r c
      · rw [if_pos (hok.2 h), if_pos h, ← Real.rpow_add two_pos, bias_eq]
        congr 1
        rw [show ((512 * i + r : ℕ) : ℤ) - ((512 * i + (c : ℕ) : ℕ) : ℤ) = (r : ℤ) - c by push_cast; ring]
        push_cast; ring
      · rw [if_neg (fun h' => h (hok.1 h')), if_neg h, zero_mul]
  · rw [Finset.mem_range] at hn
    have hno : ¬ ok (512 * i + r) n := by unfold ok; omega
    rw [weight, if_neg hno, zero_mul]

/-- The denominator after the diagonal block is positive: the query's own key is allowed. -/
theorem total_pos (a : ℝ) (σ : ℕ → ℝ) (i r : ℕ) (hr : r < 512) : 0 < total a σ (fun _ => 1) i r := by
  unfold total part full
  refine add_pos_of_nonneg_of_pos ?_ ?_
  · refine mul_nonneg (mul_nonneg (Finset.sum_nonneg fun n _ => ?_) ?_) ?_ <;> positivity
  · refine Finset.sum_pos' (fun c _ => ?_) ⟨⟨r, hr⟩, Finset.mem_univ _, ?_⟩
    · split_ifs <;> positivity
    · rw [if_pos (le_refl _)]; positivity

end Cert.Keys

end
-- ==== Proof.Loop.lean ====
/- The loop over the whole blocks of keys: what one trip writes, and by induction what the scratch buffers hold. -/
module

public import proofs.«01_k».proof.Proof.Gen.KernelIdeal.Loops
public import proofs.«01_k».proof.Proof.Step
public import proofs.«01_k».proof.Proof.Keys
public import Idealize.ShloMosaic.Lib.WritesUnit
public import Idealize.ShloMosaic.Lib.Pipeline.ValueKit

@[expose] public section

set_option maxRecDepth 16384

noncomputable section

namespace Cert.KernelIdeal.Loop

open Idealize.ShloMosaic Idealize.ShloMosaic.TcCoe Idealize.SL.Sem Cert.KernelIdeal.Gen Cert.KernelIdeal.Step Cert.Softmax

/-- The buffers the kernel's body is given. -/
structure Refs where
  arg2 : Memref sig .tc .smem S8 .f32
  harg2 : arg2.IsWhole
  arg3 : Memref sig .tc .vmem S512x256 .bf16
  harg3 : arg3.IsWhole
  arg4 : Memref sig .tc .vmem S16384x256 .bf16
  harg4 : arg4.IsWhole
  arg5 : Memref sig .tc .vmem S16384x256 .bf16
  harg5 : arg5.IsWhole
  arg6 : Memref sig .tc .vmem S512x512 .f32
  harg6 : arg6.IsWhole
  arg7 : Memref sig .tc .vmem S1x128 .f32
  harg7 : arg7.IsWhole
  arg8 : Memref sig .tc .vmem S1x128 .f32
  harg8 : arg8.IsWhole
  arg9 : Memref sig .tc .vmem S1x128 .f32
  harg9 : arg9.IsWhole
  arg10 : Memref sig .tc .vmem S1x128 .f32
  harg10 : arg10.IsWhole
  arg11 : Memref sig .tc .vmem S1x256 .f32
  harg11 : arg11.IsWhole
  arg12 : Memref sig .tc .vmem S512x256 .bf16
  harg12 : arg12.IsWhole
  arg13 : Memref sig .tc .vmem S2x512x128 .f32
  harg13 : arg13.IsWhole
  arg14 : Memref sig .tc .vmem S2x512x128 .f32
  harg14 : arg14.IsWhole
  arg15 : Memref sig .tc .vmem S1024x256 .f32
  harg15 : arg15.IsWhole

/-- What its input buffers hold. -/
structure Ins where
  x0 : Vec Ideal S8 .f32
  x1 : Vec Ideal S512x256 .bf16
  x2 : Vec Ideal S16384x256 .bf16
  x3 : Vec Ideal S16384x256 .bf16
  x4 : Vec Ideal S512x512 .f32
  x5 : Vec Ideal S1x128 .f32
  x6 : Vec Ideal S1x128 .f32
  x7 : Vec Ideal S1x128 .f32
  x8 : Vec Ideal S1x128 .f32
  x9 : Vec Ideal S1x256 .f32

/-! ## Buffers of two slabs -/

/-- One slab of a buffer of two, as it is loaded. -/
abbrev slab (arg : Memref sig .tc .vmem S2x512x128 .f32) (f : BufTy.Contents (Elt Ideal) arg.view.ty) : Fin 2 → Vec Ideal S1x512x128 .f32 :=
  ![View.readAt (Elt Ideal) arg.view (Rect.unit (s := S2x512x128) ![0, 0, 0] S1x512x128.size inb_S2x512x128_S1x512x128_0_0_0).toLoadRect f,
    View.readAt (Elt Ideal) arg.view (Rect.unit (s := S2x512x128) ![1, 0, 0] S1x512x128.size inb_S2x512x128_S1x512x128_1_0_0).toLoadRect f]

/-- Both slabs stored, the first one first. -/
abbrev put (w : Fin 2 → Vec Ideal S1x512x128 .f32) : List (View.Piece (Elt Ideal) S2x512x128 .f32) :=
  [⟨Rect.unit (s := S2x512x128) ![1, 0, 0] S1x512x128.size inb_S2x512x128_S1x512x128_1_0_0, w 1⟩,
    ⟨Rect.unit (s := S2x512x128) ![0, 0, 0] S1x512x128.size inb_S2x512x128_S1x512x128_0_0_0, w 0⟩]

theorem slab_at (arg : Memref sig .tc .vmem S2x512x128 .f32) (f : BufTy.Contents (Elt Ideal) arg.view.ty) (j : Fin 2)
    (r : Fin 512) (a : Fin 128) : slab arg f j (ix3 0 r a) = arg.view.read (Elt Ideal) f (ix3 j r a) := by
  fin_cases j
  all_goals
    refine congrArg (arg.view.read (Elt Ideal) f) (funext fun x => Fin.ext ?_)
    fin_cases x <;> simp [LoadRect.idx, Rect.unit, ix3]

theorem put_at (arg : Memref sig .tc .vmem S2x512x128 .f32) (f : BufTy.Contents (Elt Ideal) arg.view.ty)
    (w : Fin 2 → Vec Ideal S1x512x128 .f32) (L : List (View.Piece (Elt Ideal) S2x512x128 .f32)) (j : Fin 2) (r : Fin 512) (a : Fin 128) :
    arg.view.read (Elt Ideal) (arg.view.writes (Elt Ideal) f (put w ++ L)) (ix3 j r a) = w j (ix3 0 r a) := by
  have h0 : arg.view.read (Elt Ideal) (arg.view.writes (Elt Ideal) f
      ((⟨Rect.unit (s := S2x512x128) ![0, 0, 0] S1x512x128.size inb_S2x512x128_S1x512x128_0_0_0, w 0⟩ :
        View.Piece (Elt Ideal) S2x512x128 .f32) :: L)) (ix3 0 r a) = w 0 (ix3 0 r a) :=
    View.read_writes_cons_unit_of_mem (s := S2x512x128) _ _ _ _ _ _ _ rfl fun x => by fin_cases x <;> simp [ix3]
  have h1 : ∀ M, arg.view.read (Elt Ideal) (arg.view.writes (Elt Ideal) f
      ((⟨Rect.unit (s := S2x512x128) ![1, 0, 0] S1x512x128.size inb_S2x512x128_S1x512x128_1_0_0, w 1⟩ :
        View.Piece (Elt Ideal) S2x512x128 .f32) :: M)) (ix3 1 r a) = w 1 (ix3 0 r a) := fun M =>
    View.read_writes_cons_unit_of_mem (s := S2x512x128) _ _ _ _ _ _ _ rfl fun x => by fin_cases x <;> simp [ix3]
  fin_cases j
  · refine (View.read_writes_cons_unit_of_not_mem (s := S2x512x128) _ _ _ _ _ _ rfl 0 (Or.inl ?_)).trans h0
    simp [ix3]
  · exact h1 _

/-! ## One trip -/

/-- The 512 rows a trip reads, of the keys or of the values. -/
abbrev rows (i : grid0.Coords) (k : Fin (k0_t1_loop i).trips) (arg : Memref sig .tc .vmem S16384x256 .bf16)
    (f : BufTy.Contents (Elt Ideal) arg.view.ty) : Vec Ideal S512x256 .bf16 :=
  View.readAt (Elt Ideal) arg.view (Rect.unit (s := S16384x256) (k0_off2 i k) S512x256.size (k0_off2_inb i k)).toLoadRect f

/-- The scores of a whole block, of both maps. -/
def scores (v1 : Elt Ideal .f32) (q : Fin 2 → Vec Ideal S512x128 .bf16) (kb : Vec Ideal S512x256 .bf16) : Fin 2 → FVec Ideal S512x512 .f32 :=
  ![k0_pay2 (q 0) (k0_pay43 v1) kb, k0_pay12 (q 1) (k0_pay43 v1) (k0_pay11 kb)]

/-- The stacked buffer, as it is loaded whole. -/
abbrev whole (arg : Memref sig .tc .vmem S1024x256 .f32) (f : BufTy.Contents (Elt Ideal) arg.view.ty) : Vec Ideal S1024x256 .f32 :=
  View.readAt (Elt Ideal) arg.view (Rect.unit (s := S1024x256) ![0, 0] S1024x256.size inb_S1024x256_S1024x256_0_0).toLoadRect f

section Trip
variable (R : Refs) (c : Dev nD) (i : grid0.Coords) (v1 : Elt Ideal .f32) (q : Fin 2 → Vec Ideal S512x128 .bf16)
  (X4 : BufTy.Contents (Elt Ideal) R.arg4.view.ty) (X5 : BufTy.Contents (Elt Ideal) R.arg5.view.ty)

/-- A trip's stores. -/
abbrev tripOf (k : Fin (k0_t1_loop i).trips) :=
  trip_k0_t1 (F := Ideal) Variants.none c none i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 v1 (q 0) (q 1) X4 X5 k

theorem trip13 (k : Fin (k0_t1_loop i).trips) (f13 f14 f15) : (tripOf R c i v1 q X4 X5 k).1 f13 f14 f15
    = put fun j => maxSlab (k0_pay39 v1) (slab R.arg13 f13 j) (scores v1 q (rows i k R.arg4 X4) j) := by
  unfold tripOf trip_k0_t1
  rfl

theorem trip14 (k : Fin (k0_t1_loop i).trips) (f13 f14 f15) : (tripOf R c i v1 q X4 X5 k).2.1 f13 f14 f15
    = put fun j => sumSlab (k0_pay39 v1) (slab R.arg13 f13 j) (slab R.arg14 f14 j) (scores v1 q (rows i k R.arg4 X4) j) := by
  unfold tripOf trip_k0_t1
  rfl

theorem trip15 (k : Fin (k0_t1_loop i).trips) (f13 f14 f15) : (tripOf R c i v1 q X4 X5 k).2.2.1 f13 f14 f15
    = [⟨Rect.unit (s := S1024x256) ![0, 0] S1024x256.size inb_S1024x256_S1024x256_0_0,
        k0_pay44 (newAcc (k0_pay39 v1) (slab R.arg13 f13) (scores v1 q (rows i k R.arg4 X4)) (whole R.arg15 f15) (rows i k R.arg5 X5))⟩] := by
  unfold tripOf trip_k0_t1
  rfl

/-- The pieces of the trips before `k`. -/
abbrev piecesOf (G13 : BufTy.Contents (Elt Ideal) R.arg13.view.ty) (G14 : BufTy.Contents (Elt Ideal) R.arg14.view.ty)
    (G15 : BufTy.Contents (Elt Ideal) R.arg15.view.ty) (k : ℕ) :=
  pb_k0_t1 (F := Ideal) Variants.none c none i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 v1 (q 0) (q 1) X4 X5 G13 G14 G15 k

end Trip

/-! ## The trip count and the rows of a trip -/

theorem trips (i : grid0.Coords) : (k0_t1_loop i).trips = (i 1).val := by
  have h : ∀ n : Fin 32, Scf.trips 0#32 (Scalar.addi 0#32 (Scalar.muli (Scalar.divsi (Scalar.subi (BitVec.ofNat 32 n.val) 0#32) 1#32) 1#32)) 1#32 = n.val := by
    decide +kernel
  exact h (i 1)

theorem trips2 (i : grid0.Coords) : (k0_t2_loop i).trips = 0 := by
  have h : ∀ n : Fin 32, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact h (i 1)

theorem off2 (i : grid0.Coords) (k : Fin (k0_t1_loop i).trips) : k0_off2 i k = ![512 * k.val, 0] := by
  have h : ∀ n : Fin 32, (Scalar.indexCast (Scalar.muli (Scf.iv 0#32 1#32 n.val) 512#32)).toNat = 512 * n.val := by decide +kernel
  have hk : k.val < 32 := lt_trans (lt_of_lt_of_eq k.isLt (trips i)) (i 1).isLt
  have := h ⟨k.val, hk⟩
  unfold k0_off2
  simp only [this]

theorem off4 (i : grid0.Coords) : k0_off4 i = ![512 * (i 1).val, 0] := by
  have h : ∀ n : Fin 32, (Scalar.indexCast (Scalar.muli (BitVec.ofNat 32 n.val) 512#32)).toNat = 512 * n.val := by decide +kernel
  have := h (i 1)
  unfold k0_off4
  simp only [this]

theorem off1 (i : grid0.Coords) : k0_off1 i = ![(i 0).val] := by
  have h : ∀ n : Fin 8, (Scalar.indexCast (BitVec.ofNat 32 n.val)).toNat = n.val := by decide +kernel
  have := h (i 0)
  unfold k0_off1
  simp only [this]

end Cert.KernelIdeal.Loop
-- ==== Proof.Blocks.lean ====
/- The scratch buffers through the loop over the whole blocks, in the reals. -/
module

public import proofs.«01_k».proof.Proof.Loop

@[expose] public section

set_option maxRecDepth 16384

noncomputable section

namespace Cert.KernelIdeal.Blocks

open Idealize.ShloMosaic Idealize.ShloMosaic.TcCoe Idealize.SL.Sem Cert.KernelIdeal.Gen Cert.KernelIdeal.Step
  Cert.KernelIdeal.Loop Cert.Softmax Cert.Keys

/-- Place `d` of half `j` among 256. -/
def half (j : Fin 2) (d : Fin 128) : Fin 256 := ⟨j.val * 128 + d.val, by omega⟩

/-- The product of query row `r` with key `n` in map `j`. -/
def dotp (q : Fin 512 → Fin 256 → ℝ) (kk : ℕ → Fin 256 → ℝ) (j : Fin 2) (r : Fin 512) (n : ℕ) : ℝ :=
  ∑ d, q r (half j d) * kk n (half j d)

/-- A sum of products of reals. -/
theorem coe_dot {ι : Type*} (s : Finset ι) (f g : ι → ℝ) :
    ∑ i ∈ s, ((f i : ℝ) : EReal) * ((g i : ℝ) : EReal) = ((∑ i ∈ s, f i * g i : ℝ) : EReal) := by
  rw [coe_sum]; exact Finset.sum_congr rfl fun i _ => (EReal.coe_mul _ _).symm

theorem pay43_at (v1 : Elt Ideal .f32) (a : ℝ) (hv : k0_pay38 v1 = (a : EReal)) (c : Fin 512) :
    k0_pay43 v1 (ix2 0 c) = ((a * (c.val : ℝ) : ℝ) : EReal) := by
  pointwise [k0_pay43]
  have h : (BitVec.ofNat 32 c.val).toInt = (c.val : ℤ) := by
    have := c.isLt
    rw [BitVec.toInt_eq_toNat_cond, BitVec.toNat_ofNat]
    split_ifs <;> omega
  rw [hv, show (FloatOps.sitofp .f32 (BitVec.ofNat 32 c.val) : Ideal .f32) = (((BitVec.ofNat 32 c.val).toInt : ℝ) : EReal) from rfl, h,
    EReal.coe_mul]
  rfl

theorem pay39_eq (v1 : Elt Ideal .f32) (a : ℝ) (hv : k0_pay38 v1 = (a : EReal)) : k0_pay39 v1 = ((a * 512 : ℝ) : EReal) := by
  have h : Ideal.ofBits .f32 0x44000000#32 = ((512 : ℝ) : EReal) := by
    simp [Ideal.ofBits, Ideal.ieee, -EReal.coe_mul]; norm_num
  show k0_pay38 v1 * Ideal.ofBits .f32 0x44000000#32 = _
  rw [hv, h, EReal.coe_mul]

theorem scores_at (v1 : Elt Ideal .f32) (Q : Fin 2 → Vec Ideal S512x128 .bf16) (kb : Vec Ideal S512x256 .bf16) (j : Fin 2)
    (r c : Fin 512) : scores v1 Q kb j (ix2 r c) = ∑ d, Q j (ix2 r d) * kb (ix2 c (half j d)) + k0_pay43 v1 (ix2 0 c) := by
  fin_cases j
  · show k0_pay2 _ _ _ _ = _
    pointwise [k0_pay2]
    simp [half]
  · show k0_pay12 _ _ _ _ = _
    pointwise [k0_pay12, k0_pay11]
    simp [half]

/-! ## The loop -/

section
variable (R : Refs) (c : Dev nD) (i : grid0.Coords) (v1 : Elt Ideal .f32) (Q : Fin 2 → Vec Ideal S512x128 .bf16)
  (X4 : BufTy.Contents (Elt Ideal) R.arg4.view.ty) (X5 : BufTy.Contents (Elt Ideal) R.arg5.view.ty)

theorem rows_at (arg : Memref sig .tc .vmem S16384x256 .bf16) (f : BufTy.Contents (Elt Ideal) arg.view.ty)
    (k : Fin (k0_t1_loop i).trips) (r : Fin 512) (e : Fin 256) (n : Fin 16384) (hn : n.val = 512 * k.val + r.val) :
    rows i k arg f (ix2 r e) = arg.view.read (Elt Ideal) f (ix2 n e) := by
  refine congrArg (arg.view.read (Elt Ideal) f) (funext fun x => Fin.ext ?_)
  have h := off2 i k
  fin_cases x <;> simp [LoadRect.idx, Rect.unit, ix2, h, hn]

theorem whole_at (arg : Memref sig .tc .vmem S1024x256 .f32) (f : BufTy.Contents (Elt Ideal) arg.view.ty) (y : S1024x256.Idx) :
    whole arg f y = arg.view.read (Elt Ideal) f y := by
  refine congrArg (arg.view.read (Elt Ideal) f) (funext fun x => Fin.ext ?_)
  fin_cases x <;> simp [LoadRect.idx, Rect.unit]

theorem pay44_at (x : FVec Ideal S1024x256 .f32) (y : S1024x256.Idx) : k0_pay44 x y = x y := by
  idx_vars y
  pointwise [k0_pay44]

/-- After `k` whole blocks: relative to each row's maximum, the sums over the first `k` blocks of keys. -/
theorem loop (a : ℝ) (q : Fin 512 → Fin 256 → ℝ) (kk vv : ℕ → Fin 256 → ℝ) (hv : k0_pay38 v1 = (a : EReal))
    (hQ : ∀ j r d, Q j (ix2 r d) = (q r (half j d) : EReal))
    (hK : ∀ (n : Fin 16384) e, R.arg4.view.read (Elt Ideal) X4 (ix2 n e) = (kk n.val e : EReal))
    (hV : ∀ (n : Fin 16384) e, R.arg5.view.read (Elt Ideal) X5 (ix2 n e) = (vv n.val e : EReal))
    (G13 : BufTy.Contents (Elt Ideal) R.arg13.view.ty) (G14 : BufTy.Contents (Elt Ideal) R.arg14.view.ty)
    (G15 : BufTy.Contents (Elt Ideal) R.arg15.view.ty)
    (h0 : State (R.arg13.view.read (Elt Ideal) G13) (R.arg14.view.read (Elt Ideal) G14) (R.arg15.view.read (Elt Ideal) G15)
      (fun _ _ => 0) fun _ _ _ => 0) (k : ℕ) (hk : k ≤ (k0_t1_loop i).trips) :
    State (R.arg13.view.read (Elt Ideal) (R.arg13.view.writes (Elt Ideal) G13 (piecesOf R c i v1 Q X4 X5 G13 G14 G15 k).1))
      (R.arg14.view.read (Elt Ideal) (R.arg14.view.writes (Elt Ideal) G14 (piecesOf R c i v1 Q X4 X5 G13 G14 G15 k).2.1))
      (R.arg15.view.read (Elt Ideal) (R.arg15.view.writes (Elt Ideal) G15 (piecesOf R c i v1 Q X4 X5 G13 G14 G15 k).2.2))
      (fun j r => part a (dotp q kk j r) (fun _ => 1) k) (fun j r e => part a (dotp q kk j r) (fun n => vv n e) k) := by
  induction k with
  | zero => simpa [part_zero, pb_k0_t1] using h0
  | succ k ih =>
    have ih := ih (by omega)
    set P := piecesOf R c i v1 Q X4 X5 G13 G14 G15 k with hP
    have hs := pb_k0_t1_succ (F := Ideal) Variants.none c none i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 v1 (Q 0) (Q 1) X4 X5 G13 G14 G15 ⟨k, hk⟩
    have hlt : k < 32 := lt_of_lt_of_le (lt_of_lt_of_eq hk (trips i)) (i 1).isLt.le
    have h13 := trip13 R c i v1 Q X4 X5 ⟨k, hk⟩ (R.arg13.view.writes (Elt Ideal) G13 P.1)
      (R.arg14.view.writes (Elt Ideal) G14 P.2.1) (R.arg15.view.writes (Elt Ideal) G15 P.2.2)
    have h14 := trip14 R c i v1 Q X4 X5 ⟨k, hk⟩ (R.arg13.view.writes (Elt Ideal) G13 P.1)
      (R.arg14.view.writes (Elt Ideal) G14 P.2.1) (R.arg15.view.writes (Elt Ideal) G15 P.2.2)
    have h15 := trip15 R c i v1 Q X4 X5 ⟨k, hk⟩ (R.arg13.view.writes (Elt Ideal) G13 P.1)
      (R.arg14.view.writes (Elt Ideal) G14 P.2.1) (R.arg15.view.writes (Elt Ideal) G15 P.2.2)
    have e13 : (piecesOf R c i v1 Q X4 X5 G13 G14 G15 (k + 1)).1 = _ := (congrArg (fun p => p.1) hs).trans (congrArg (· ++ P.1) h13)
    have e14 : (piecesOf R c i v1 Q X4 X5 G13 G14 G15 (k + 1)).2.1 = _ := (congrArg (fun p => p.2.1) hs).trans (congrArg (· ++ P.2.1) h14)
    have e15 : (piecesOf R c i v1 Q X4 X5 G13 G14 G15 (k + 1)).2.2 = _ := (congrArg (fun p => p.2.2) hs).trans (congrArg (· ++ P.2.2) h15)
    have hn : ∀ c : Fin 512, 512 * k + c.val < 16384 := fun c => by omega
    have hsc : ∀ j r c', scores v1 Q (rows i ⟨k, hk⟩ R.arg4 X4) j (ix2 r c')
        = ((dotp q kk j r (512 * k + c'.val) + a * (c'.val : ℝ) : ℝ) : EReal) := fun j r c' => by
      rw [scores_at, pay43_at v1 a hv, EReal.coe_add]
      simp only [hQ, rows_at i R.arg4 X4 ⟨k, hk⟩ c' _ ⟨512 * k + c'.val, hn c'⟩ rfl, hK]
      rw [coe_dot]
      rfl
    have st := ih.step (a * 512) (slab R.arg13 (R.arg13.view.writes (Elt Ideal) G13 P.1))
      (slab R.arg14 (R.arg14.view.writes (Elt Ideal) G14 P.2.1)) (scores v1 Q (rows i ⟨k, hk⟩ R.arg4 X4))
      (rows i ⟨k, hk⟩ R.arg5 X5) (fun c' e => vv (512 * k + c'.val) e)
      (m' := R.arg13.view.read (Elt Ideal) (R.arg13.view.writes (Elt Ideal) G13 (piecesOf R c i v1 Q X4 X5 G13 G14 G15 (k + 1)).1))
      (l' := R.arg14.view.read (Elt Ideal) (R.arg14.view.writes (Elt Ideal) G14 (piecesOf R c i v1 Q X4 X5 G13 G14 G15 (k + 1)).2.1))
      (acc' := R.arg15.view.read (Elt Ideal) (R.arg15.view.writes (Elt Ideal) G15 (piecesOf R c i v1 Q X4 X5 G13 G14 G15 (k + 1)).2.2))
      (fun j r c' => by rw [hsc]; exact EReal.coe_ne_top _)
      (fun c' e => by rw [rows_at i R.arg5 X5 ⟨k, hk⟩ c' e ⟨512 * k + c'.val, hn c'⟩ rfl, hV])
      (fun j r b => slab_at _ _ j r b) (fun j r b => slab_at _ _ j r b)
      (fun j r b => by rw [e13, put_at, pay39_eq v1 a hv])
      (fun j r b => by rw [e14, put_at, pay39_eq v1 a hv])
      (fun j r e => by
        rw [e15, ← pay39_eq v1 a hv]
        refine (View.read_writes_cons_unit_of_mem (s := S1024x256) _ _ _ _ _ _ (ix2 (row j r) e) rfl
          fun x => by fin_cases x <;> simp [ix2]).trans ?_
        rw [pay44_at, show whole R.arg15 (R.arg15.view.writes (Elt Ideal) G15 P.2.2)
          = R.arg15.view.read (Elt Ideal) (R.arg15.view.writes (Elt Ideal) G15 P.2.2) from funext fun y => whole_at _ _ y])
    convert st using 2
    · funext
      simp only [hsc, wt_coe]
      rw [← part_succ]
      simp only [mul_one]
    · funext
      simp only [hsc, wt_coe]
      rw [← part_succ]

end

end Cert.KernelIdeal.Blocks
-- ==== Proof.Body.lean ====
/- The kernel's body: after the loop, the block on the diagonal, and what is stored. -/
module

public import proofs.«01_k».proof.Proof.Blocks
public import proofs.«01_k».proof.Proof.Gen.KernelIdeal.Frame

@[expose] public section

set_option maxRecDepth 16384

noncomputable section

namespace Cert.KernelIdeal.Body

open Idealize.ShloMosaic Idealize.ShloMosaic.TcCoe Idealize.SL.Sem Cert.KernelIdeal.Gen Cert.KernelIdeal.Step
  Cert.KernelIdeal.Loop Cert.KernelIdeal.Blocks Cert.Softmax Cert.Keys

section
variable (R : Refs) (X : Ins) (c : Dev nD) (i : grid0.Coords)

/-- The slope of the head, as it is loaded. -/
abbrev slope : Elt Ideal .f32 :=
  View.readAt (Elt Ideal) R.arg2.view (Rect.unit (s := S8) (k0_off1 i) S1.size (k0_off1_inb i)).toLoadRect (R.harg2.unread X.x0)
    (Shape.Idx.first (numel1_S1 ▸ Nat.one_pos))

/-- The two halves of the queries. -/
abbrev queries : Fin 2 → Vec Ideal S512x128 .bf16 :=
  ![View.readAt (Elt Ideal) R.arg3.view (Rect.unit (s := S512x256) ![0, 0] S512x128.size inb_S512x256_S512x128_0_0).toLoadRect (R.harg3.unread X.x1),
    View.readAt (Elt Ideal) R.arg3.view (Rect.unit (s := S512x256) ![0, 128] S512x128.size inb_S512x256_S512x128_0_128).toLoadRect (R.harg3.unread X.x1)]

/-- The initial stores. -/
def init13 : List (View.Piece (Elt Ideal) S2x512x128 .f32) :=
  [⟨Rect.unit (s := S2x512x128) ![0, 0, 0] S2x512x128.size inb_S2x512x128_S2x512x128_0_0_0, k0_pay40 (F := Ideal)⟩]
def init14 : List (View.Piece (Elt Ideal) S2x512x128 .f32) :=
  [⟨Rect.unit (s := S2x512x128) ![0, 0, 0] S2x512x128.size inb_S2x512x128_S2x512x128_0_0_0, k0_pay41 (F := Ideal)⟩]
def init15 : List (View.Piece (Elt Ideal) S1024x256 .f32) :=
  [⟨Rect.unit (s := S1024x256) ![0, 0] S1024x256.size inb_S1024x256_S1024x256_0_0, k0_pay42 (F := Ideal)⟩]

/-- The pieces of the loop over the whole blocks. -/
def P1 := piecesOf R c i (slope R X i) (queries R X) (R.harg4.unread X.x2) (R.harg5.unread X.x3)
  (R.arg13.view.writes (Elt Ideal) R.arg13.view.junk init13) (R.arg14.view.writes (Elt Ideal) R.arg14.view.junk init14)
  (R.arg15.view.writes (Elt Ideal) R.arg15.view.junk init15) (Scf.trips (k0_t1_loop i).lb (k0_t1_loop i).ub (k0_t1_loop i).st)

/-- All that is stored before the block on the diagonal. -/
def W13 := (P1 R X c i).1 ++ init13
def W14 := (P1 R X c i).2.1 ++ init14
def W15 := (P1 R X c i).2.2 ++ init15

/-- The rows of the block on the diagonal, of the keys or of the values. -/
abbrev drows (arg : Memref sig .tc .vmem S16384x256 .bf16) (f : BufTy.Contents (Elt Ideal) arg.view.ty) : Vec Ideal S512x256 .bf16 :=
  View.readAt (Elt Ideal) arg.view (Rect.unit (s := S16384x256) (k0_off4 i) S512x256.size (k0_off4_inb i)).toLoadRect f

/-- The bias of the block on the diagonal, as it is loaded. -/
abbrev bias : Vec Ideal S512x512 .f32 :=
  View.readAt (Elt Ideal) R.arg6.view (Rect.unit (s := S512x512) ![0, 0] S512x512.size inb_S512x512_S512x512_0_0).toLoadRect (R.harg6.unread X.x4)

/-- The scores of the block on the diagonal, of both maps. -/
def dscores (v1 : Elt Ideal .f32) (q : Fin 2 → Vec Ideal S512x128 .bf16) (kb : Vec Ideal S512x256 .bf16) (b : Vec Ideal S512x512 .f32) :
    Fin 2 → FVec Ideal S512x512 .f32 :=
  ![k0_pay47 (k0_pay38 v1) (q 0) kb b, k0_pay57 (q 1) (k0_pay46 (k0_pay38 v1) b) (k0_pay56 kb)]

def sc := dscores (slope R X i) (queries R X) (drows i R.arg4 (R.harg4.unread X.x2)) (bias R X)

/-- A slab, as it is loaded after stores that cover it. -/
def cov0 (arg : Memref sig .tc .vmem S2x512x128 .f32) (L : List (View.Piece (Elt Ideal) S2x512x128 .f32)) : Vec Ideal S1x512x128 .f32 :=
  arg.view.readCov L (Rect.unit (s := S2x512x128) ![0, 0, 0] S1x512x128.size inb_S2x512x128_S1x512x128_0_0_0).toLoadRect
def cov1 (arg : Memref sig .tc .vmem S2x512x128 .f32) (L : List (View.Piece (Elt Ideal) S2x512x128 .f32)) : Vec Ideal S1x512x128 .f32 :=
  arg.view.readCov L (Rect.unit (s := S2x512x128) ![1, 0, 0] S1x512x128.size inb_S2x512x128_S1x512x128_1_0_0).toLoadRect

/-- The slab of the first map stored over earlier stores. -/
abbrev put0 (w : Vec Ideal S1x512x128 .f32) (L : List (View.Piece (Elt Ideal) S2x512x128 .f32)) : List (View.Piece (Elt Ideal) S2x512x128 .f32) :=
  ⟨Rect.unit (s := S2x512x128) ![0, 0, 0] S1x512x128.size inb_S2x512x128_S1x512x128_0_0_0, w⟩ :: L

/-- The maxima the block on the diagonal finds. -/
def M : Fin 2 → Vec Ideal S1x512x128 .f32 :=
  ![cov0 R.arg13 (W13 R X c i),
    cov1 R.arg13 (put0 (maxSlab (k0_pay39 (slope R X i)) (cov0 R.arg13 (W13 R X c i)) (sc R X i 0)) (W13 R X c i))]

/-- The sums of weights it finds. -/
def L : Fin 2 → Vec Ideal S1x512x128 .f32 :=
  ![cov0 R.arg14 (W14 R X c i),
    cov1 R.arg14 (put0 (sumSlab (k0_pay39 (slope R X i)) (M R X c i 0) (cov0 R.arg14 (W14 R X c i)) (sc R X i 0)) (W14 R X c i))]

/-- The sums of weights and the weighted sums after it. -/
def E14 := put (fun j => sumSlab (k0_pay39 (slope R X i)) (M R X c i j) (L R X c i j) (sc R X i j)) ++ W14 R X c i
def E15 : List (View.Piece (Elt Ideal) S1024x256 .f32) :=
  ⟨Rect.unit (s := S1024x256) ![0, 0] S1024x256.size inb_S1024x256_S1024x256_0_0,
    k0_pay65 (newAcc (k0_pay39 (slope R X i)) (M R X c i) (sc R X i)
      (whole R.arg15 (R.arg15.view.writes (Elt Ideal) R.arg15.view.junk (W15 R X c i))) (drows i R.arg5 (R.harg5.unread X.x3)))⟩ :: W15 R X c i

abbrev vec128 (arg : Memref sig .tc .vmem S1x128 .f32) (f : BufTy.Contents (Elt Ideal) arg.view.ty) : Vec Ideal S1x128 .f32 :=
  View.readAt (Elt Ideal) arg.view (Rect.unit (s := S1x128) ![0, 0] S1x128.size inb_S1x128_S1x128_0_0).toLoadRect f

/-- One map's rows of the stacked buffer. -/
abbrev accs (arg : Memref sig .tc .vmem S1024x256 .f32) (f : BufTy.Contents (Elt Ideal) arg.view.ty) : Fin 2 → Vec Ideal S512x256 .f32 :=
  ![View.readAt (Elt Ideal) arg.view (Rect.unit (s := S1024x256) ![0, 0] S512x256.size inb_S1024x256_S512x256_0_0).toLoadRect f,
    View.readAt (Elt Ideal) arg.view (Rect.unit (s := S1024x256) ![512, 0] S512x256.size inb_S1024x256_S512x256_512_0).toLoadRect f]

/-- What is stored, from the sums. -/
def stored (y5 y6 y7 y8 : Vec Ideal S1x128 .f32) (g : Vec Ideal S1x256 .f32) (A : Fin 2 → Vec Ideal S512x256 .f32)
    (D : Fin 2 → Vec Ideal S1x512x128 .f32) : FVec Ideal S512x256 .bf16 :=
  k0_pay1 (k0_pay66 y5 y6 y7 y8 (A 0) (D 0) (A 1) (D 1)) g (k0_pay67 y5 y6 y7 y8 (A 0) (D 0) (A 1) (D 1)) (k0_pay68 (F := Ideal))

end

end Cert.KernelIdeal.Body
-- ==== Proof.Run.lean ====
/- What the run stores, in the words of the body's definitions. -/
module

public import proofs.«01_k».proof.Proof.Body

@[expose] public section

set_option maxRecDepth 16384

noncomputable section

namespace Cert.KernelIdeal.Body

open Idealize.ShloMosaic Idealize.ShloMosaic.TcCoe Idealize.SL.Sem Cert.KernelIdeal.Gen Cert.KernelIdeal.Step
  Cert.KernelIdeal.Loop Cert.KernelIdeal.Blocks Cert.Softmax Cert.Keys

section
variable (R : Refs) (X : Ins) (c : Dev nD) (i : grid0.Coords)

/-- The loop's tail never runs, so that it stores nothing. -/
theorem tail_nil (v1 : Elt Ideal .f32) (v16 v17 : Vec Ideal S512x128 .bf16) (v26 : BitVec 32)
    (X4 : BufTy.Contents (Elt Ideal) R.arg4.view.ty) (X5 : BufTy.Contents (Elt Ideal) R.arg5.view.ty)
    (G13 : BufTy.Contents (Elt Ideal) R.arg13.view.ty) (G14 : BufTy.Contents (Elt Ideal) R.arg14.view.ty)
    (G15 : BufTy.Contents (Elt Ideal) R.arg15.view.ty) :
    pb_k0_t2 (F := Ideal) Variants.none c none i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 v1 v16 v17 v26 X4 X5 G13 G14 G15
      (Scf.trips (k0_t2_loop i).lb (k0_t2_loop i).ub (k0_t2_loop i).st) = ([], [], []) := by
  rw [show Scf.trips (k0_t2_loop i).lb (k0_t2_loop i).ub (k0_t2_loop i).st = 0 from trips2 i]
  rfl

theorem w40 : kernelRun0_A.sl.v40 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 = M R X c i 0 := by
  unfold kernelRun0_A.sl.v40
  rw [tail_nil]
  rfl

theorem w53 : kernelRun0_A.sl.v53 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 = L R X c i 0 := by
  unfold kernelRun0_A.sl.v53
  rw [tail_nil]
  rfl

theorem w101 : kernelRun0_A.sl.v101 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3
    = whole R.arg15 (R.arg15.view.writes (Elt Ideal) R.arg15.view.junk (W15 R X c i)) := by
  unfold kernelRun0_A.sl.v101
  rw [tail_nil]
  rfl

theorem w71 : kernelRun0_A.sl.v71 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 = M R X c i 1 := by
  unfold kernelRun0_A.sl.v71 kernelRun0_A.sl.HS0_1_1
  rw [tail_nil, w40]
  rfl

theorem h14 : kernelRun0_A.sl.HS1_1_1 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4
    = put0 (sumSlab (k0_pay39 (slope R X i)) (M R X c i 0) (L R X c i 0) (sc R X i 0)) (W14 R X c i) := by
  unfold kernelRun0_A.sl.HS1_1_1
  rw [tail_nil, w40, w53]
  rfl

theorem w84 : kernelRun0_A.sl.v84 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 = L R X c i 1 := by
  unfold kernelRun0_A.sl.v84
  rw [h14]
  rfl

theorem e14 : kernelRun0_A.sl.HS1_2 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 = E14 R X c i := by
  unfold kernelRun0_A.sl.HS1_2
  rw [h14, w71, w84]
  rfl

theorem w10 : kernelRun0_A.sl.r_10 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4
    = newAcc (k0_pay39 (slope R X i)) (M R X c i) (sc R X i)
      (whole R.arg15 (R.arg15.view.writes (Elt Ideal) R.arg15.view.junk (W15 R X c i))) (drows i R.arg5 (R.harg5.unread X.x3)) := by
  unfold kernelRun0_A.sl.r_10 kernelRun0_A.sl.r_7 kernelRun0_A.sl.r_8
  rw [w40, w71, w101]
  rfl

theorem e15 : kernelRun0_A.sl.HS2_1_1 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 = E15 R X c i := by
  unfold kernelRun0_A.sl.HS2_1_1
  rw [tail_nil, w10]
  rfl

/-- The run stores one block, computed from what the sums hold after the block on the diagonal. -/
theorem run_eq : (kernelRun0_A (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 X.x5 X.x6 X.x7 X.x8 X.x9).1
    = [⟨Rect.unit (s := S512x256) ![0, 0] S512x256.size inb_S512x256_S512x256_0_0,
        stored (vec128 R.arg7 (R.harg7.unread X.x5)) (vec128 R.arg8 (R.harg8.unread X.x6)) (vec128 R.arg9 (R.harg9.unread X.x7))
          (vec128 R.arg10 (R.harg10.unread X.x8))
          (View.readAt (Elt Ideal) R.arg11.view (Rect.unit (s := S1x256) ![0, 0] S1x256.size inb_S1x256_S1x256_0_0).toLoadRect (R.harg11.unread X.x9))
          (accs R.arg15 (R.arg15.view.writes (Elt Ideal) R.arg15.view.junk (E15 R X c i)))
          (slab R.arg14 (R.arg14.view.writes (Elt Ideal) R.arg14.view.junk (E14 R X c i)))⟩] := by
  unfold kernelRun0_A
  dsimp only
  unfold kernelRun0_A.sl.r_13 kernelRun0_A.sl.r_11 kernelRun0_A.sl.v123 kernelRun0_A.sl.v124 kernelRun0_A.sl.v128 kernelRun0_A.sl.v129
  rw [e14, e15]
  rfl

end
end Cert.KernelIdeal.Body
-- ==== Proof.Diag.lean ====
/- The block on the diagonal, in the reals: what the sums hold when the row of the output is computed. -/
module

public import proofs.«01_k».proof.Proof.Run

@[expose] public section

set_option maxRecDepth 16384

noncomputable section

namespace Cert.KernelIdeal.Diag

open Idealize.ShloMosaic Idealize.ShloMosaic.TcCoe Idealize.SL.Sem Cert.KernelIdeal.Gen Cert.KernelIdeal.Step
  Cert.KernelIdeal.Loop Cert.KernelIdeal.Blocks Cert.KernelIdeal.Body Cert.Softmax Cert.Keys

section
variable (R : Refs) (X : Ins) (c : Dev nD) (i : grid0.Coords)

theorem queries_at (j : Fin 2) (r : Fin 512) (d : Fin 128) : queries R X j (ix2 r d) = X.x1 (ix2 r (half j d)) := by
  have h : R.arg3.view.read (Elt Ideal) (R.harg3.unread X.x1) (ix2 r (half j d)) = X.x1 (ix2 r (half j d)) := by
    rw [R.harg3.read_unread]
  rw [← h]
  fin_cases j
  all_goals
    refine congrArg (R.arg3.view.read (Elt Ideal) (R.harg3.unread X.x1)) (funext fun x => Fin.ext ?_)
    fin_cases x <;> simp [LoadRect.idx, Rect.unit, ix2, half]
    try omega

theorem drows_at (arg : Memref sig .tc .vmem S16384x256 .bf16) (f : BufTy.Contents (Elt Ideal) arg.view.ty)
    (r : Fin 512) (e : Fin 256) (n : Fin 16384) (hn : n.val = 512 * (i 1).val + r.val) :
    drows i arg f (ix2 r e) = arg.view.read (Elt Ideal) f (ix2 n e) := by
  refine congrArg (arg.view.read (Elt Ideal) f) (funext fun x => Fin.ext ?_)
  have h := off4 i
  fin_cases x <;> simp [LoadRect.idx, Rect.unit, ix2, h, hn]

theorem bias_at (r c : Fin 512) : bias R X (ix2 r c) = X.x4 (ix2 r c) := by
  have h : R.arg6.view.read (Elt Ideal) (R.harg6.unread X.x4) (ix2 r c) = X.x4 (ix2 r c) := by
    rw [R.harg6.read_unread]
  rw [← h]
  refine congrArg (R.arg6.view.read (Elt Ideal) (R.harg6.unread X.x4)) (funext fun x => Fin.ext ?_)
  fin_cases x <;> simp [LoadRect.idx, Rect.unit, ix2]

theorem dscores_at (v1 : Elt Ideal .f32) (Q : Fin 2 → Vec Ideal S512x128 .bf16) (kb : Vec Ideal S512x256 .bf16)
    (b : Vec Ideal S512x512 .f32) (j : Fin 2) (r c : Fin 512) :
    dscores v1 Q kb b j (ix2 r c) = ∑ d, Q j (ix2 r d) * kb (ix2 c (half j d)) + k0_pay38 v1 * b (ix2 r c) := by
  fin_cases j
  · show k0_pay47 _ _ _ _ (ix2 r c) = _
    pointwise [k0_pay47, k0_pay46]
    simp [half]
  · show k0_pay57 _ _ _ (ix2 r c) = _
    pointwise [k0_pay57, k0_pay56, k0_pay46]
    simp [half]

/-- A buffer's initial store fills it. -/
theorem init13_at (j : Fin 2) (r : Fin 512) (a : Fin 128) : R.arg13.view.read (Elt Ideal)
    (R.arg13.view.writes (Elt Ideal) R.arg13.view.junk init13) (ix3 j r a) = Ideal.ofBits .f32 0xF149F2CA#32 := by
  refine (View.read_writes_cons_unit_of_mem (s := S2x512x128) _ _ _ _ _ _ (ix3 j r a) rfl
    fun x => by fin_cases x <;> simp [ix3]).trans ?_
  pointwise [k0_pay40]

theorem init14_at (j : Fin 2) (r : Fin 512) (a : Fin 128) : R.arg14.view.read (Elt Ideal)
    (R.arg14.view.writes (Elt Ideal) R.arg14.view.junk init14) (ix3 j r a) = 0 := by
  refine (View.read_writes_cons_unit_of_mem (s := S2x512x128) _ _ _ _ _ _ (ix3 j r a) rfl
    fun x => by fin_cases x <;> simp [ix3]).trans ?_
  pointwise [k0_pay41]

theorem init15_at (n : Fin 1024) (e : Fin 256) : R.arg15.view.read (Elt Ideal)
    (R.arg15.view.writes (Elt Ideal) R.arg15.view.junk init15) (ix2 n e) = 0 := by
  refine (View.read_writes_cons_unit_of_mem (s := S1024x256) _ _ _ _ _ _ (ix2 n e) rfl
    fun x => by fin_cases x <;> simp [ix2]).trans ?_
  pointwise [k0_pay42]

theorem fill : ∃ μ : ℝ, Ideal.ofBits .f32 0xF149F2CA#32 = (μ : EReal) := by
  refine ⟨-(2 ^ 76 * (1 + 4846282 / 2 ^ 23) * 2 ^ 23), ?_⟩
  simp [Ideal.ofBits, Ideal.ieee, -EReal.coe_mul]
  norm_num

/-- Before the loop: no key yet. -/
theorem start : State (R.arg13.view.read (Elt Ideal) (R.arg13.view.writes (Elt Ideal) R.arg13.view.junk init13))
    (R.arg14.view.read (Elt Ideal) (R.arg14.view.writes (Elt Ideal) R.arg14.view.junk init14))
    (R.arg15.view.read (Elt Ideal) (R.arg15.view.writes (Elt Ideal) R.arg15.view.junk init15)) (fun _ _ => 0) fun _ _ _ => 0 := by
  intro j r
  obtain ⟨μ, hμ⟩ := fill
  exact ⟨μ, fun a => by rw [init13_at, hμ], fun a => by rw [init14_at]; exact scaled_zero μ,
    fun e => by rw [init15_at]; exact scaled_zero μ⟩

/-- Stores do not reach the second slab when made to the first. -/
theorem put0_one (arg : Memref sig .tc .vmem S2x512x128 .f32) (f : BufTy.Contents (Elt Ideal) arg.view.ty)
    (w : Vec Ideal S1x512x128 .f32) (L : List (View.Piece (Elt Ideal) S2x512x128 .f32)) (r : Fin 512) (a : Fin 128) :
    arg.view.read (Elt Ideal) (arg.view.writes (Elt Ideal) f (put0 w L)) (ix3 1 r a)
      = arg.view.read (Elt Ideal) (arg.view.writes (Elt Ideal) f L) (ix3 1 r a) := by
  refine (View.read_writes_cons_unit_of_not_mem (s := S2x512x128) _ _ _ _ _ _ rfl 0 (Or.inr ?_))
  simp [ix3]

theorem cov0_at (arg : Memref sig .tc .vmem S2x512x128 .f32) (L : List (View.Piece (Elt Ideal) S2x512x128 .f32)) (r : Fin 512) (a : Fin 128) :
    cov0 arg L (ix3 0 r a) = arg.view.read (Elt Ideal) (arg.view.writes (Elt Ideal) arg.view.junk L) (ix3 0 r a) :=
  slab_at arg _ 0 r a

theorem cov1_at (arg : Memref sig .tc .vmem S2x512x128 .f32) (L : List (View.Piece (Elt Ideal) S2x512x128 .f32)) (r : Fin 512) (a : Fin 128) :
    cov1 arg L (ix3 0 r a) = arg.view.read (Elt Ideal) (arg.view.writes (Elt Ideal) arg.view.junk L) (ix3 1 r a) :=
  slab_at arg _ 1 r a

theorem M_at (j : Fin 2) (r : Fin 512) (a : Fin 128) : M R X c i j (ix3 0 r a)
    = R.arg13.view.read (Elt Ideal) (R.arg13.view.writes (Elt Ideal) R.arg13.view.junk (W13 R X c i)) (ix3 j r a) := by
  unfold Body.M
  generalize W13 R X c i = w
  fin_cases j
  · exact cov0_at R.arg13 w r a
  · exact (cov1_at R.arg13 _ r a).trans (put0_one R.arg13 _ _ w r a)

theorem L_at (j : Fin 2) (r : Fin 512) (a : Fin 128) : L R X c i j (ix3 0 r a)
    = R.arg14.view.read (Elt Ideal) (R.arg14.view.writes (Elt Ideal) R.arg14.view.junk (W14 R X c i)) (ix3 j r a) := by
  unfold Body.L
  generalize W14 R X c i = w
  fin_cases j
  · exact cov0_at R.arg14 w r a
  · exact (cov1_at R.arg14 _ r a).trans (put0_one R.arg14 _ _ w r a)

/-- What the inputs hold, in the reals: the slope, the queries, the keys and the values, and the bias of the block on the diagonal. -/
structure Real (a : ℝ) (q : Fin 512 → Fin 256 → ℝ) (kk vv : ℕ → Fin 256 → ℝ) : Prop where
  slope : k0_pay38 (slope R X i) = (a : EReal)
  pos : 0 < a
  query : ∀ r e, X.x1 (ix2 r e) = (q r e : EReal)
  key : ∀ (n : Fin 16384) e, X.x2 (ix2 n e) = (kk n.val e : EReal)
  value : ∀ (n : Fin 16384) e, X.x3 (ix2 n e) = (vv n.val e : EReal)
  bias : ∀ r c : Fin 512, X.x4 (ix2 r c)
    = if ok r.val c.val then (((min (c.val : ℤ) (2 * r.val - c.val) : ℤ) : ℝ) : EReal) else ⊥

variable {R X c i}
variable {a : ℝ} {q : Fin 512 → Fin 256 → ℝ} {kk vv : ℕ → Fin 256 → ℝ}

/-- Before the block on the diagonal: the sums over the whole blocks. -/
theorem before (h : Real R X i a q kk vv) :
    State (R.arg13.view.read (Elt Ideal) (R.arg13.view.writes (Elt Ideal) R.arg13.view.junk (W13 R X c i)))
      (R.arg14.view.read (Elt Ideal) (R.arg14.view.writes (Elt Ideal) R.arg14.view.junk (W14 R X c i)))
      (R.arg15.view.read (Elt Ideal) (R.arg15.view.writes (Elt Ideal) R.arg15.view.junk (W15 R X c i)))
      (fun j r => part a (dotp q kk j r) (fun _ => 1) (i 1).val)
      (fun j r e => part a (dotp q kk j r) (fun n => vv n e) (i 1).val) := by
  have st := loop R c i (Body.slope R X i) (queries R X) (R.harg4.unread X.x2) (R.harg5.unread X.x3) a q kk vv h.slope
    (fun j r d => by rw [queries_at, h.query]) (fun n e => by rw [R.harg4.read_unread, h.key])
    (fun n e => by rw [R.harg5.read_unread, h.value]) _ _ _ (start R) _ le_rfl
  rw [W13, W14, W15, View.writes_append, View.writes_append, View.writes_append]
  rw [← trips i]
  exact st

theorem sc_at (h : Real R X i a q kk vv) (j : Fin 2) (r c' : Fin 512) : sc R X i j (ix2 r c')
    = if ok r.val c'.val then ((dotp q kk j r (512 * (i 1).val + c'.val)
        + a * ((min (c'.val : ℤ) (2 * r.val - c'.val) : ℤ) : ℝ) : ℝ) : EReal) else ⊥ := by
  have hi : (i 1).val < 32 := (i 1).isLt
  have hn : 512 * (i 1).val + c'.val < 16384 := by omega
  unfold sc
  rw [dscores_at, bias_at, h.bias, h.slope]
  simp only [queries_at, h.query, drows_at i R.arg4 _ c' _ ⟨512 * (i 1).val + c'.val, hn⟩ rfl, R.harg4.read_unread, h.key]
  rw [coe_dot]
  split_ifs
  · rw [← EReal.coe_mul, ← EReal.coe_add]
    rfl
  · rw [EReal.coe_mul_bot_of_pos h.pos, EReal.add_bot]

/-- After it: the sums over all the keys a row may see. -/
theorem after (h : Real R X i a q kk vv) :
    ∃ m, State m (R.arg14.view.read (Elt Ideal) (R.arg14.view.writes (Elt Ideal) R.arg14.view.junk (E14 R X c i)))
      (R.arg15.view.read (Elt Ideal) (R.arg15.view.writes (Elt Ideal) R.arg15.view.junk (E15 R X c i)))
      (fun j r => total a (dotp q kk j r) (fun _ => 1) (i 1).val r.val)
      (fun j r e => total a (dotp q kk j r) (fun n => vv n e) (i 1).val r.val) := by
  have hi : (i 1).val < 32 := (i 1).isLt
  have hn : ∀ c' : Fin 512, 512 * (i 1).val + c'.val < 16384 := fun c' => by omega
  refine ⟨R.arg13.view.read (Elt Ideal) (R.arg13.view.writes (Elt Ideal) R.arg13.view.junk
    (put (fun j => maxSlab ((a * 512 : ℝ) : EReal) (M R X c i j) (sc R X i j)) ++ W13 R X c i)), ?_⟩
  have st := (before (c := c) h).step (a * 512) (M R X c i) (L R X c i) (sc R X i) (drows i R.arg5 (R.harg5.unread X.x3))
    (fun c' e => vv (512 * (i 1).val + c'.val) e)
    (m' := R.arg13.view.read (Elt Ideal) (R.arg13.view.writes (Elt Ideal) R.arg13.view.junk
      (put (fun j => maxSlab ((a * 512 : ℝ) : EReal) (M R X c i j) (sc R X i j)) ++ W13 R X c i)))
    (l' := R.arg14.view.read (Elt Ideal) (R.arg14.view.writes (Elt Ideal) R.arg14.view.junk (E14 R X c i)))
    (acc' := R.arg15.view.read (Elt Ideal) (R.arg15.view.writes (Elt Ideal) R.arg15.view.junk (E15 R X c i)))
    (fun j r c' => by rw [sc_at h]; split_ifs; exacts [EReal.coe_ne_top _, bot_ne_top])
    (fun c' e => by rw [drows_at i R.arg5 _ c' e ⟨512 * (i 1).val + c'.val, hn c'⟩ rfl, R.harg5.read_unread, h.value])
    (M_at R X c i) (L_at R X c i)
    (fun j r b => by rw [put_at])
    (fun j r b => by rw [E14, put_at, pay39_eq _ a h.slope])
    (fun j r e => by
      rw [E15, pay39_eq _ a h.slope]
      refine (View.read_writes_cons_unit_of_mem (s := S1024x256) _ _ _ _ _ _ (ix2 (row j r) e) rfl
        fun x => by fin_cases x <;> simp [ix2]).trans ?_
      rw [show k0_pay65 _ = k0_pay44 _ from rfl, pay44_at,
        show whole R.arg15 (R.arg15.view.writes (Elt Ideal) R.arg15.view.junk (W15 R X c i))
          = R.arg15.view.read (Elt Ideal) (R.arg15.view.writes (Elt Ideal) R.arg15.view.junk (W15 R X c i)) from
          funext fun y => whole_at _ _ y])
  have hw : ∀ j r (c' : Fin 512), wt (sc R X i j (ix2 r c')) = if ok r.val c'.val then
      2 ^ (dotp q kk j r (512 * (i 1).val + c'.val) + a * ((min (c'.val : ℤ) (2 * r.val - c'.val) : ℤ) : ℝ)) else 0 := fun j r c' => by
    rw [sc_at h]
    split_ifs
    exacts [wt_coe _, wt_bot]
  convert st using 2
  · funext r
    simp only [hw, total, mul_one]
  · funext r e
    simp only [hw, total]

end

end Cert.KernelIdeal.Diag
-- ==== Proof.Common.lean ====
/- One element of the output, as the kernel and the reference both come to it. -/
module

public import proofs.«01_k».proof.Proof.Softmax
public import proofs.«01_k».proof.Proof.Keys
public import Idealize.ShloMosaic.Lib.Pointwise

@[expose] public section

set_option maxRecDepth 16384

noncomputable section

namespace Cert.Common

open Idealize.ShloMosaic Idealize.ShloMosaic.TcCoe Cert.Softmax Cert.Keys

/-! ## Literals -/

theorem log2_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h]
  show (if (2 : ℝ) ≤ 0 then (⊥ : EReal) else ((Real.log 2 : ℝ) : EReal)) = _
  rw [if_neg (by norm_num)]

theorem ln2_real : ∃ y : ℝ, Ideal.ofBits .f32 0x3F317218#32 = (y : EReal) := by
  simp [Ideal.ofBits, Ideal.ieee, -EReal.coe_mul]

theorem minus_eight : Ideal.ofBits .f32 0xC1000000#32 = ((-8 : ℝ) : EReal) := by
  simp [Ideal.ofBits, Ideal.ieee, -EReal.coe_mul]; norm_num

theorem eight : Ideal.ofBits .f32 0x41000000#32 = ((8 : ℝ) : EReal) := by
  simp [Ideal.ofBits, Ideal.ieee, -EReal.coe_mul]; norm_num

theorem init_real : ∃ y : ℝ, Ideal.ofBits .f32 0x3E4CCCCD#32 = (y : EReal) := by
  simp [Ideal.ofBits, Ideal.ieee, -EReal.coe_mul]

/-! ## The slope and lambda -/

/-- The slope of head `h`. -/
def slopeE (h : ℕ) : EReal := Ideal.exp (Ideal.ofBits .f32 0x3F317218#32 *
  Ideal.div (Ideal.ofBits .f32 0xC1000000#32 * (1 + (FloatOps.sitofp .f32 (BitVec.ofNat 32 h) : Ideal .f32))) (Ideal.ofBits .f32 0x41000000#32))

theorem slope_real (h : ℕ) : ∃ s : ℝ, 0 < s ∧ slopeE h = (s : EReal) := by
  obtain ⟨y, hy⟩ := ln2_real
  unfold slopeE
  rw [hy, minus_eight, eight, show (FloatOps.sitofp .f32 (BitVec.ofNat 32 h) : Ideal .f32) = (((BitVec.ofNat 32 h).toInt : ℝ) : EReal) from rfl,
    ← EReal.coe_one, ← EReal.coe_add, ← EReal.coe_mul, div_real _ (by norm_num), ← EReal.coe_mul, exp_coe]
  exact ⟨_, Real.exp_pos _, rfl⟩

/-- lambda, from the four vectors. -/
def lamE (a b c d : Fin 128 → EReal) : EReal :=
  Ideal.exp (∑ x, a x * b x) - Ideal.exp (∑ x, c x * d x) + Ideal.ofBits .f32 0x3E4CCCCD#32

theorem lam_real (a b c d : Fin 128 → EReal) (ha : ∀ x, ∃ y : ℝ, a x = y) (hb : ∀ x, ∃ y : ℝ, b x = y) (hc : ∀ x, ∃ y : ℝ, c x = y)
    (hd : ∀ x, ∃ y : ℝ, d x = y) : ∃ y : ℝ, lamE a b c d = (y : EReal) := by
  choose a' ha' using ha
  choose b' hb' using hb
  choose c' hc' using hc
  choose d' hd' using hd
  obtain ⟨z, hz⟩ := init_real
  have key : ∀ f g : Fin 128 → ℝ, ∑ x, (f x : EReal) * (g x : EReal) = ((∑ x, f x * g x : ℝ) : EReal) := fun f g => by
    rw [coe_sum]; exact Finset.sum_congr rfl fun i _ => (EReal.coe_mul _ _).symm
  unfold lamE
  simp only [ha', hb', hc', hd']
  rw [key, key, hz, exp_coe, exp_coe, ← EReal.coe_sub, ← EReal.coe_add]
  exact ⟨_, rfl⟩

/-! ## The average of the values -/

/-- The average of the values `ν` under the weights of query `q`. -/
def avg (s : ℝ) (σ ν : ℕ → ℝ) (q : ℕ) : ℝ :=
  (∑ n : Fin 16384, weight s σ q n * ν n) / ∑ n : Fin 16384, weight s σ q n

/-- It is the kernel's quotient. -/
theorem avg_total (s : ℝ) (σ ν : ℕ → ℝ) (i r : ℕ) (hi : i < 32) (hr : r < 512) :
    avg s σ ν (512 * i + r) = total (s * (Real.log 2)⁻¹) σ ν i r / total (s * (Real.log 2)⁻¹) σ (fun _ => 1) i r := by
  have h1 := sum_weight s σ (fun _ => 1) i r hi hr
  simp only [mul_one] at h1
  rw [avg, sum_weight s σ ν i r hi hr, h1, mul_div_mul_right _ _ (Real.rpow_pos_of_pos (by norm_num) _).ne']

/-- One element of the output from its row: the norm, the gain `g` and the factor. -/
def norm (o : Fin 256 → EReal) (g : EReal) (e : Fin 256) : EReal :=
  o e * Ideal.rsqrt (Ideal.div (∑ x, o x * o x) (Ideal.ofBits .f32 0x43800000#32) + Ideal.ofBits .f32 0x3727C5AC#32) * g
    * Ideal.ofBits .f32 0x3F4CCCCD#32

/-! ## From the array of queries, keys and values -/

/-- The columns of head `h`. -/
def qcol (h : Fin 8) (e : Fin 256) : Fin 6144 := ⟨h.val * 256 + e.val, by omega⟩
def kcol (h : Fin 8) (e : Fin 256) : Fin 6144 := ⟨2048 + (h.val * 256 + e.val), by omega⟩
def vcol (h : Fin 8) (e : Fin 256) : Fin 6144 := ⟨4096 + (h.val * 256 + e.val), by omega⟩

/-- Column `col` of row `n`. -/
def at0 (x : Fin 16384 → Fin 6144 → ℝ) (n : ℕ) (col : Fin 6144) : ℝ := if hn : n < 16384 then x ⟨n, hn⟩ col else 0

theorem at0_val (x : Fin 16384 → Fin 6144 → ℝ) (n : Fin 16384) (col : Fin 6144) : at0 x n.val col = x n col := dif_pos n.isLt

/-- Place `d` of map `j` in a head. -/
def place (j : Fin 2) (d : Fin 128) : Fin 256 := ⟨j.val * 128 + d.val, by omega⟩

/-- The product of query `q` with key `n` in map `j` of head `h`. -/
def score (x : Fin 16384 → Fin 6144 → ℝ) (h : Fin 8) (j : Fin 2) (q n : ℕ) : ℝ :=
  ∑ d, at0 x q (qcol h (place j d)) * at0 x n (kcol h (place j d))

/-- The row of query `q` in head `h` before the norm: the first map's average less lambda times the second's. -/
def mixed (x : Fin 16384 → Fin 6144 → ℝ) (s : ℝ) (l : EReal) (h : Fin 8) (q : ℕ) (e : Fin 256) : EReal :=
  (avg s (score x h 0 q) (fun n => at0 x n (vcol h e)) q : EReal)
    - l * (avg s (score x h 1 q) (fun n => at0 x n (vcol h e)) q : EReal)

end Cert.Common
-- ==== Proof.Stored.lean ====
/- The block that is stored, in the reals. -/
module

public import proofs.«01_k».proof.Proof.Diag
public import proofs.«01_k».proof.Proof.Common

@[expose] public section

set_option maxRecDepth 16384

noncomputable section

namespace Cert.KernelIdeal.Stored

open Idealize.ShloMosaic Idealize.ShloMosaic.TcCoe Idealize.SL.Sem Cert.KernelIdeal.Gen Cert.KernelIdeal.Step
  Cert.KernelIdeal.Loop Cert.KernelIdeal.Blocks Cert.KernelIdeal.Body Cert.KernelIdeal.Diag Cert.Softmax Cert.Keys Cert.Common

/-- The quotients of the two maps and their difference. -/
theorem mix_at (y5 y6 y7 y8 : Vec Ideal S1x128 .f32) (A0 A1 : Vec Ideal S512x256 .f32)
    (D0 D1 : Vec Ideal S1x512x128 .f32) (r : Fin 512) (e : Fin 256) (u0 u1 : EReal)
    (h0 : ∀ a, Ideal.div (A0 (ix2 r e)) (D0 (ix3 0 r a)) = u0) (h1 : ∀ a, Ideal.div (A1 (ix2 r e)) (D1 (ix3 0 r a)) = u1) :
    k0_pay66 y5 y6 y7 y8 A0 D0 A1 D1 (ix2 r e)
      = u0 - lamE (fun x => y5 (ix2 0 x)) (fun x => y6 (ix2 0 x)) (fun x => y7 (ix2 0 x)) (fun x => y8 (ix2 0 x)) * u1 := by
  pointwise [k0_pay66]
  split_ifs
  all_goals first | (rw [h0, h1]; rfl) | (exfalso; omega)

/-- The stored block from its rows before the norm. -/
theorem stored_norm (y5 y6 y7 y8 : Vec Ideal S1x128 .f32) (g : Vec Ideal S1x256 .f32) (A : Fin 2 → Vec Ideal S512x256 .f32)
    (D : Fin 2 → Vec Ideal S1x512x128 .f32) (r : Fin 512) (e : Fin 256) (o : Fin 256 → EReal)
    (ho : ∀ e, k0_pay66 y5 y6 y7 y8 (A 0) (D 0) (A 1) (D 1) (ix2 r e) = o e) :
    stored y5 y6 y7 y8 g A D (ix2 r e) = norm o (g (ix2 0 e)) e := by
  have hs : k0_pay67 y5 y6 y7 y8 (A 0) (D 0) (A 1) (D 1) (ix2 r 0) = ∑ x, o x * o x := by
    pointwise [k0_pay67]
    simp only [ho]
  unfold stored
  pointwise [k0_pay1, k0_pay68]
  rw [hs, ho]
  rfl

section
variable (R : Refs)

theorem accs_at (f : BufTy.Contents (Elt Ideal) R.arg15.view.ty) (j : Fin 2) (r : Fin 512) (e : Fin 256) :
    accs R.arg15 f j (ix2 r e) = R.arg15.view.read (Elt Ideal) f (ix2 (row j r) e) := by
  fin_cases j
  all_goals
    refine congrArg (R.arg15.view.read (Elt Ideal) f) (funext fun x => Fin.ext ?_)
    fin_cases x <;> simp [LoadRect.idx, Rect.unit, ix2, row]
    try omega

theorem vec_at (arg : Memref sig .tc .vmem S1x128 .f32) (harg : arg.IsWhole) (x : Vec Ideal S1x128 .f32) (d : Fin 128) :
    vec128 arg (harg.unread x) (ix2 0 d) = x (ix2 0 d) := by
  have h : arg.view.read (Elt Ideal) (harg.unread x) (ix2 0 d) = x (ix2 0 d) := by rw [harg.read_unread]
  rw [← h]
  refine congrArg (arg.view.read (Elt Ideal) (harg.unread x)) (funext fun x => Fin.ext ?_)
  fin_cases x <;> simp [LoadRect.idx, Rect.unit, ix2]

theorem gain_at (arg : Memref sig .tc .vmem S1x256 .f32) (harg : arg.IsWhole) (x : Vec Ideal S1x256 .f32) (d : Fin 256) :
    View.readAt (Elt Ideal) arg.view (Rect.unit (s := S1x256) ![0, 0] S1x256.size inb_S1x256_S1x256_0_0).toLoadRect (harg.unread x) (ix2 0 d)
      = x (ix2 0 d) := by
  have h : arg.view.read (Elt Ideal) (harg.unread x) (ix2 0 d) = x (ix2 0 d) := by rw [harg.read_unread]
  rw [← h]
  refine congrArg (arg.view.read (Elt Ideal) (harg.unread x)) (funext fun x => Fin.ext ?_)
  fin_cases x <;> simp [LoadRect.idx, Rect.unit, ix2]

variable {R} {X : Ins} (c : Dev nD) {i : grid0.Coords} {a : ℝ} {q : Fin 512 → Fin 256 → ℝ} {kk vv : ℕ → Fin 256 → ℝ}

/-- What the body leaves in its output buffer. -/
abbrev outBlock (R : Refs) (X : Ins) (c : Dev nD) (i : grid0.Coords) : Vec Ideal S512x256 .bf16 :=
  VO0_10.read (Elt Ideal) (VO0_10.writes (Elt Ideal) VO0_10.junk
    (kernelRun0_A (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 X.x5 X.x6 X.x7 X.x8 X.x9).1)

theorem out_block (R : Refs) (X : Ins) (c : Dev nD) (i : grid0.Coords) :
    out0_A_10 (F := Ideal) c i R.arg2 R.harg2 R.arg3 R.harg3 R.arg4 R.harg4 R.arg5 R.harg5 R.arg6 R.harg6 R.arg7 R.harg7 R.arg8 R.harg8
      R.arg9 R.harg9 R.arg10 R.harg10 R.arg11 R.harg11 R.arg12 R.harg12 R.arg13 R.harg13 R.arg14 R.harg14
      R.arg15 R.harg15 X.x0 X.x1 X.x2 X.x3 X.x4 X.x5 X.x6 X.x7 X.x8 X.x9 = outBlock R X c i := rfl

theorem out_at (h : Real R X i a q kk vv) (r : Fin 512) (e : Fin 256) : outBlock R X c i (ix2 r e)
    = norm (fun e => ((total a (dotp q kk 0 r) (fun n => vv n e) (i 1).val r.val / total a (dotp q kk 0 r) (fun _ => 1) (i 1).val r.val : ℝ) : EReal)
        - lamE (fun d => X.x5 (ix2 0 d)) (fun d => X.x6 (ix2 0 d)) (fun d => X.x7 (ix2 0 d)) (fun d => X.x8 (ix2 0 d))
          * ((total a (dotp q kk 1 r) (fun n => vv n e) (i 1).val r.val / total a (dotp q kk 1 r) (fun _ => 1) (i 1).val r.val : ℝ) : EReal))
      (X.x9 (ix2 0 e)) e := by
  unfold outBlock
  rw [run_eq]
  refine (View.read_writes_cons_unit_of_mem (s := S512x256) _ _ _ _ _ _ (ix2 r e) rfl
    fun x => by fin_cases x <;> simp [ix2]).trans ?_
  obtain ⟨m, st⟩ := after h
  have hq : ∀ j e b, Ideal.div (accs R.arg15 (R.arg15.view.writes (Elt Ideal) R.arg15.view.junk (E15 R X c i)) j (ix2 r e))
      (slab R.arg14 (R.arg14.view.writes (Elt Ideal) R.arg14.view.junk (E14 R X c i)) j (ix3 0 r b))
      = ((total a (dotp q kk j r) (fun n => vv n e) (i 1).val r.val / total a (dotp q kk j r) (fun _ => 1) (i 1).val r.val : ℝ) : EReal) := by
    intro j e b
    obtain ⟨μ, _, hT, hU⟩ := st j r
    rw [accs_at, slab_at]
    exact quot (hU e) (hT b) (total_pos a _ _ _ r.isLt).ne'
  refine (stored_norm _ _ _ _ _ _ _ r e _ fun e => mix_at _ _ _ _ _ _ _ _ r e _ _ (hq 0 e) (hq 1 e)).trans ?_
  simp only [vec_at]
  rw [gain_at]

end

end Cert.KernelIdeal.Stored
-- ==== Proof.Words.lean ====
/- The integer words of the mask and of the position bias: floor division by 64, the order, the distance. -/
module

public import Idealize.ShloMosaic.Lib.Pointwise

@[expose] public section

set_option maxRecDepth 16384

namespace Cert.Words

open Idealize.ShloMosaic

/-- A small word, as an integer. -/
theorem toInt_small (n : ℕ) (hn : n < 65536) : (BitVec.ofNat 32 n).toInt = (n : ℤ) := by
  rw [BitVec.toInt_eq_toNat_cond, BitVec.toNat_ofNat]
  split_ifs <;> omega

/-- Floor division by 64, as it is printed: the truncated quotient, less one where the signs differ and a remainder is left. -/
def floorDiv (w : BitVec 32) : BitVec 32 :=
  Scalar.select (IntOp.andi
      (IntOp.cmpi .ne (if w = 0 then 0 else if w.msb = true then -1 else 1 : BitVec 32)
        (if (64#32 : BitVec 32) = 0 then 0 else if (64#32 : BitVec 32).msb = true then -1 else 1 : BitVec 32))
      (IntOp.cmpi .ne (IntOp.remsi .host w 64#32) 0#32))
    (IntOp.subi (IntOp.divsi .host w 64#32) 1#32) (IntOp.divsi .host w 64#32)

theorem floorDiv_eq (n : ℕ) (hn : n < 16384) : floorDiv (BitVec.ofNat 32 n) = BitVec.ofNat 32 (n / 64) := by
  have h : ∀ n : Fin 16384, floorDiv (BitVec.ofNat 32 n.val) = BitVec.ofNat 32 (n.val / 64) := by decide +kernel
  exact h ⟨n, hn⟩

/-- The order of two small words chooses. -/
theorem select_le {α : Type} (a b : ℕ) (ha : a < 65536) (hb : b < 65536) (x y : α) :
    Scalar.select (IntOp.cmpi .sle (BitVec.ofNat 32 a) (BitVec.ofNat 32 b)) x y = if a ≤ b then x else y := by
  have h : BitVec.sle (BitVec.ofNat 32 a) (BitVec.ofNat 32 b) = decide (a ≤ b) := by
    rw [BitVec.sle_eq_decide, toInt_small a ha, toInt_small b hb]
    simp
  by_cases hab : a ≤ b <;> simp [Scalar.select, IntOp.cmpi, h, hab]

/-- The distance of two positions. -/
theorem dist (q n : ℕ) (hq : q < 16384) (hn : n < 16384) :
    (IntOp.absi (IntOp.subi (BitVec.ofNat 32 q) (BitVec.ofNat 32 n))).toInt = |(q : ℤ) - n| := by
  have hs : (IntOp.subi (BitVec.ofNat 32 q) (BitVec.ofNat 32 n)).toInt = (q : ℤ) - n := by
    show (BitVec.ofNat 32 q - BitVec.ofNat 32 n).toInt = _
    rw [BitVec.toInt_eq_toNat_cond, BitVec.toNat_sub, BitVec.toNat_ofNat, BitVec.toNat_ofNat]
    split_ifs <;> omega
  generalize IntOp.subi (BitVec.ofNat 32 q) (BitVec.ofNat 32 n) = w at hs
  unfold IntOp.absi
  rw [BitVec.msb_eq_toInt, hs]
  by_cases h : (q : ℤ) - n < 0
  · rw [if_pos (by simpa using h), BitVec.toInt_neg, hs, abs_of_neg h]
    exact Int.bmod_eq_of_le (by omega) (by omega)
  · rw [if_neg (by simpa using h), hs, abs_of_nonneg (by omega)]

/-- The bias of the block on the diagonal. -/
theorem bias (r c : ℕ) (hr : r < 512) (hc : c < 512) :
    (IntOp.minsi (BitVec.ofNat 32 c) (IntOp.subi (IntOp.muli 2#32 (BitVec.ofNat 32 r)) (BitVec.ofNat 32 c))).toInt
      = min (c : ℤ) (2 * r - c) := by
  have hs : (IntOp.subi (IntOp.muli 2#32 (BitVec.ofNat 32 r)) (BitVec.ofNat 32 c)).toInt = 2 * (r : ℤ) - c := by
    show (2#32 * BitVec.ofNat 32 r - BitVec.ofNat 32 c).toInt = _
    rw [BitVec.toInt_eq_toNat_cond, BitVec.toNat_sub, BitVec.toNat_mul, BitVec.toNat_ofNat, BitVec.toNat_ofNat, BitVec.toNat_ofNat]
    split_ifs <;> omega
  generalize IntOp.subi (IntOp.muli 2#32 (BitVec.ofNat 32 r)) (BitVec.ofNat 32 c) = w at hs
  have hc' := toInt_small c (by omega)
  unfold IntOp.minsi
  rw [BitVec.slt_eq_decide, hs, hc']
  by_cases h : (c : ℤ) < 2 * r - c
  · rw [if_pos (by simpa using h), hc', min_eq_left h.le]
  · rw [if_neg (by simpa using h), hs, min_eq_right (not_lt.1 h)]

end Cert.Words
-- ==== Proof.Host.lean ====
/- The two operands that the host computes. -/
module

public import proofs.«01_k».proof.Proof.Gen.KernelIdeal.Frame
public import proofs.«01_k».proof.Proof.Common
public import proofs.«01_k».proof.Proof.Words
public import Idealize.ShloMosaic.Lib.Claim
public import Idealize.ShloMosaic.Lib.StableHlo.ReadAt

@[expose] public section

set_option maxRecDepth 16384

noncomputable section

namespace Cert.KernelIdeal.Host

open Idealize.ShloMosaic Idealize.ShloMosaic.TcCoe Idealize.SL.Sem Cert.KernelIdeal Cert.KernelIdeal.Gen Cert.Keys Cert.Common

variable (m : (ℓ : Loc nD τ sig) → Buf (Elt Ideal) ℓ) (c : Dev nD)

abbrev slopes : FVec Ideal S8 .f32 := V m c main_v9
abbrev biases : FVec Ideal S512x512 .f32 := V m c main_v20

theorem slope_entry (h : Fin 8) : slopes m c (ix1 h) = slopeE h.val := by
  show StableHlo.after _ _ _ _ = _
  simp only [hostOps0, hostOps0_1, hostOps0_2, hostOps0_3, hostOps0_4, hostOps0_5, List.flatten_cons, List.flatten_nil, List.append_nil, List.cons_append, List.nil_append]
  after_reads_at
  rfl

theorem bias_entry (r n : Fin 512) : biases m c (ix2 r n)
    = if ok r.val n.val then (((min (n.val:ℤ) (2*r.val - n.val) : ℤ) : ℝ) : EReal) else ⊥ := by
  show StableHlo.after _ _ _ _ = _
  simp only [hostOps0, hostOps0_1, hostOps0_2, hostOps0_3, hostOps0_4, hostOps0_5, List.flatten_cons, List.flatten_nil, List.append_nil, List.cons_append, List.nil_append]
  after_reads_at
  change Scalar.select (IntOp.cmpi .sle (Words.floorDiv (BitVec.ofNat 32 n.val)) (Words.floorDiv (BitVec.ofNat 32 r.val)))
    (FloatOps.sitofp .f32 (IntOp.minsi (BitVec.ofNat 32 n.val) (IntOp.subi (IntOp.muli 2#32 (BitVec.ofNat 32 r.val)) (BitVec.ofNat 32 n.val))) : Ideal .f32)
    (Ideal.ofBits .f32 0xFF800000#32) = _
  rw [Words.floorDiv_eq _ (by omega), Words.floorDiv_eq _ (by omega), Words.select_le _ _ (by omega) (by omega),
    show Ideal.ofBits .f32 0xFF800000#32 = (⊥ : EReal) by simp [Ideal.ofBits, Ideal.ieee]]
  unfold ok
  split_ifs
  · exact congrArg (fun z : ℤ => ((z : ℝ) : EReal)) (Words.bias r.val n.val r.isLt n.isLt)
  · rfl

end Cert.KernelIdeal.Host
-- ==== Proof.Point.lean ====
/- The operands of the body at a grid point, and the block it stores there. -/
module

public import proofs.«01_k».proof.Proof.Stored
public import proofs.«01_k».proof.Proof.Host
public import Idealize.ShloMosaic.Lib.Pipeline.ValueKit

@[expose] public section

set_option maxRecDepth 16384

noncomputable section

namespace Cert.KernelIdeal.Point

open Idealize.ShloMosaic Idealize.ShloMosaic.TcCoe Idealize.SL.Sem Cert.KernelIdeal Cert.KernelIdeal.Gen Cert.KernelIdeal.Step
  Cert.KernelIdeal.Loop Cert.KernelIdeal.Blocks Cert.KernelIdeal.Diag Cert.KernelIdeal.Host Cert.Softmax Cert.Keys Cert.Common

/-- The blocks that each grid point stages, and its coordinates: a head and a block of queries. -/
theorem idx : ∀ t : Fin cfg0.N, win0_0.index t = ![0] ∧ win0_1.index t = ![t.val % 32, t.val / 32]
    ∧ win0_2.index t = ![0, 8 + t.val / 32] ∧ win0_3.index t = ![0, 16 + t.val / 32] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val % 32, t.val / 32] :=
  (by decide +kernel : ∀ t : Fin grid0.N, _)

theorem coords : ∀ t : Fin cfg0.N, (grid0.coords t 0).val = t.val / 32 ∧ (grid0.coords t 1).val = t.val % 32 :=
  (by decide +kernel : ∀ t : Fin grid0.N, _)

variable (m : (ℓ : Loc nD τ sig) → Buf (Elt Ideal) ℓ) (c : Dev nD)

/-- The arguments. -/
abbrev a0 : FVec Ideal S16384x6144 .bf16 := m ((c : Thread nD τ).loc main_arg0)
abbrev a1 : FVec Ideal S1x128 .f32 := m ((c : Thread nD τ).loc main_arg1)
abbrev a2 : FVec Ideal S1x128 .f32 := m ((c : Thread nD τ).loc main_arg2)
abbrev a3 : FVec Ideal S1x128 .f32 := m ((c : Thread nD τ).loc main_arg3)
abbrev a4 : FVec Ideal S1x128 .f32 := m ((c : Thread nD τ).loc main_arg4)
abbrev a5 : FVec Ideal S1x256 .f32 := m ((c : Thread nD τ).loc main_arg5)

/-- The head of a grid point, and the row of the array that a row of its block is. -/
def head (t : Fin cfg0.N) : Fin 8 := ⟨t.val / 32, by have h : t.val < 256 := t.isLt; omega⟩
def qrow (t : Fin cfg0.N) (r : Fin 512) : Fin 16384 := ⟨512 * (t.val % 32) + r.val, by omega⟩

/-- The buffers and the blocks of a grid point. -/
def refs (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, scM0_0, Memref.isWhole_whole _, scM0_1, Memref.isWhole_whole _, scM0_2, Memref.isWhole_whole _⟩
def ins (t : Fin cfg0.N) : Ins := ⟨iblk m c 0 t, iblk m c 1 t, iblk m c 2 t, iblk m c 3 t, iblk m c 4 t, iblk m c 5 t, iblk m c 6 t, iblk m c 7 t, iblk m c 8 t, iblk m c 9 t⟩

theorem block0 (t : Fin cfg0.N) (h : Fin 8) : (ins m c t).x0 (ix1 h) = slopes m c (ix1 h) := by
  show iblk m c 0 t (ix1 h) = _
  blk_ext [iblk, idx t]

theorem block1 (t : Fin cfg0.N) (r : Fin 512) (e : Fin 256) : (ins m c t).x1 (ix2 r e) = a0 m c (ix2 (qrow t r) (qcol (head t) e)) := by
  show iblk m c 1 t (ix2 r e) = _
  unfold qrow qcol head
  blk_ext [iblk, V_main_arg0, idx t]

theorem block2 (t : Fin cfg0.N) (n : Fin 16384) (e : Fin 256) : (ins m c t).x2 (ix2 n e) = a0 m c (ix2 n (kcol (head t) e)) := by
  show iblk m c 2 t (ix2 n e) = _
  unfold kcol head
  blk_ext [iblk, V_main_arg0, idx t]

theorem block3 (t : Fin cfg0.N) (n : Fin 16384) (e : Fin 256) : (ins m c t).x3 (ix2 n e) = a0 m c (ix2 n (vcol (head t) e)) := by
  show iblk m c 3 t (ix2 n e) = _
  unfold vcol head
  blk_ext [iblk, V_main_arg0, idx t]

theorem block4 (t : Fin cfg0.N) (r n : Fin 512) : (ins m c t).x4 (ix2 r n) = biases m c (ix2 r n) := by
  show iblk m c 4 t (ix2 r n) = _
  blk_ext [iblk, idx t]

theorem block5 (t : Fin cfg0.N) (e : Fin 128) : (ins m c t).x5 (ix2 0 e) = a1 m c (ix2 0 e) := by
  show iblk m c 5 t (ix2 0 e) = _
  blk_ext [iblk, V_main_arg1, idx t]

theorem block6 (t : Fin cfg0.N) (e : Fin 128) : (ins m c t).x6 (ix2 0 e) = a2 m c (ix2 0 e) := by
  show iblk m c 6 t (ix2 0 e) = _
  blk_ext [iblk, V_main_arg2, idx t]

theorem block7 (t : Fin cfg0.N) (e : Fin 128) : (ins m c t).x7 (ix2 0 e) = a3 m c (ix2 0 e) := by
  show iblk m c 7 t (ix2 0 e) = _
  blk_ext [iblk, V_main_arg3, idx t]

theorem block8 (t : Fin cfg0.N) (e : Fin 128) : (ins m c t).x8 (ix2 0 e) = a4 m c (ix2 0 e) := by
  show iblk m c 8 t (ix2 0 e) = _
  blk_ext [iblk, V_main_arg4, idx t]

theorem block9 (t : Fin cfg0.N) (e : Fin 256) : (ins m c t).x9 (ix2 0 e) = a5 m c (ix2 0 e) := by
  show iblk m c 9 t (ix2 0 e) = _
  blk_ext [iblk, V_main_arg5, idx t]

/-- The slope that the body loads is that of the point's head. -/
theorem slope_eq (t : Fin cfg0.N) : Body.slope (refs t) (ins m c t) (grid0.coords t) = slopeE (head t).val := by
  have h := (refs t).harg2.read_unread (Val := Elt Ideal) (ins m c t).x0
  rw [← slope_entry m c (head t), ← block0, ← h]
  refine congrArg ((refs t).arg2.view.read (Elt Ideal) ((refs t).harg2.unread (ins m c t).x0)) (funext fun x => Fin.ext ?_)
  fin_cases x
  simp [LoadRect.idx, Rect.unit, off1, (coords t).1, head, Shape.Idx.first]

variable {m c} {x : Fin 16384 → Fin 6144 → ℝ}

/-- At real arguments the operands of the body are real. -/
theorem real (hx : ∀ n col, a0 m c (ix2 n col) = (x n col : EReal)) (t : Fin cfg0.N) {s : ℝ} (hpos : 0 < s)
    (hs : slopeE (head t).val = (s : EReal)) :
    Diag.Real (refs t) (ins m c t) (grid0.coords t) (s * (Real.log 2)⁻¹) (fun r e => at0 x (512 * (t.val % 32) + r.val) (qcol (head t) e))
      (fun n e => at0 x n (kcol (head t) e)) (fun n e => at0 x n (vcol (head t) e)) where
  slope := by
    show Body.slope (refs t) (ins m c t) (grid0.coords t) * (((Real.log 2)⁻¹ : ℝ) : EReal) = _
    rw [slope_eq, hs, EReal.coe_mul]
  pos := mul_pos hpos (inv_pos.mpr (Real.log_pos (by norm_num)))
  query r e := by rw [block1, hx]; exact congrArg _ (at0_val x (qrow t r) _).symm
  key n e := by rw [block2, hx, at0_val]
  value n e := by rw [block3, hx, at0_val]
  bias r n := (block4 m c t r n).trans (bias_entry m c r n)

/-- An element of the block that the body leaves. -/
theorem out_eq (hx : ∀ n col, a0 m c (ix2 n col) = (x n col : EReal)) (t : Fin cfg0.N) {s : ℝ} (hpos : 0 < s)
    (hs : slopeE (head t).val = (s : EReal)) (r : Fin 512) (e : Fin 256) :
    Stored.outBlock (refs t) (ins m c t) c (grid0.coords t) (ix2 r e)
      = norm (mixed x s (lamE (fun d => a1 m c (ix2 0 d)) (fun d => a2 m c (ix2 0 d)) (fun d => a3 m c (ix2 0 d)) (fun d => a4 m c (ix2 0 d)))
          (head t) (qrow t r).val) (a5 m c (ix2 0 e)) e := by
  rw [Stored.out_at c (real hx t hpos hs) r e, block9]
  simp only [block5, block6, block7, block8]
  refine congrArg (fun o => norm o (a5 m c (ix2 0 e)) e) (funext fun e' => ?_)
  have hv : ∀ j ν, avg s (score x (head t) j (qrow t r).val) ν (qrow t r).val = _ := fun j ν =>
    avg_total s (score x (head t) j (qrow t r).val) ν (t.val % 32) r.val (by omega) r.isLt
  unfold mixed
  rw [hv, hv, (coords t).2]
  rfl

end Cert.KernelIdeal.Point
-- ==== Proof.RefOps.lean ====
/- The reference's tensor operations, at an index. -/
module

public import proofs.«01_k».proof.Proof.Gen.ReferenceIdeal.Run
public import proofs.«01_k».proof.Proof.Common

@[expose] public section

set_option maxRecDepth 16384

noncomputable section

namespace Cert.ReferenceIdeal.Ref

open Idealize.ShloMosaic Idealize.ShloMosaic.TcCoe Idealize.SL.Sem Cert.ReferenceIdeal Cert.ReferenceIdeal.Value Cert.ReferenceIdeal.Gen
  Cert.Softmax Cert.Keys Cert.Common

theorem negInf : Ideal.ofBits .f32 0xFF800000#32 = ⊥ := by simp [Ideal.ofBits, Ideal.ieee]

/-! ## The tensors, one operation or a few at a time -/

theorem spread_at (T : FVec Ideal S8x2x16384 .f32) (q n : Fin 16384) (h : Fin 8) (j : Fin 2) :
    (broadcastInDim S8x2x16384x16384 ![0, 1, 2, 3] bcast_S8x2x16384x1_S8x2x16384x16384_0_1_2_3
      (broadcastInDim S8x2x16384x1 ![0, 1, 2] bcast_S8x2x16384_S8x2x16384x1_0_1_2 T) : FVec Ideal S8x2x16384x16384 .f32) (ix4 h j q n)
      = T (ix3 h j q) := by
  pointwise

/-- The maximum over the keys. -/
abbrev maxes (T : FVec Ideal S8x2x16384x16384 .f32) : FVec Ideal S8x2x16384 .f32 :=
  maximumf (broadcastInDim S8x2x16384 ![] bcast_S_S8x2x16384 (constant S_ .f32 0xFF800000#32))
    (Host.reduce FloatOps.maximumf T (constant S_ .f32 0xFF800000#32) reducesTo_S8x2x16384x16384_S8x2x16384_d3 h_S_)

theorem max_at (T : FVec Ideal S8x2x16384x16384 .f32) (q : Fin 16384) (h : Fin 8) (j : Fin 2) :
    Host.reduce FloatOps.maximumf T (constant S_ .f32 0xFF800000#32) reducesTo_S8x2x16384x16384_S8x2x16384_d3 h_S_ (ix3 h j q)
      = Finset.fold max (Ideal.ofBits .f32 0xFF800000#32) T {i | reducesTo_S8x2x16384x16384_S8x2x16384_d3.drop i = ix3 h j q} := by
  pointwise

theorem maximumf_at (x y : FVec Ideal S8x2x16384 .f32) (i : S8x2x16384.Idx) : maximumf x y i = max (x i) (y i) := rfl

theorem maxes_at (T : FVec Ideal S8x2x16384x16384 .f32) (q : Fin 16384) (h : Fin 8) (j : Fin 2) :
    maxes T (ix3 h j q) = max (Ideal.ofBits .f32 0xFF800000#32) (Finset.fold max (Ideal.ofBits .f32 0xFF800000#32) T
      {i | reducesTo_S8x2x16384x16384_S8x2x16384_d3.drop i = ix3 h j q}) := by
  have hb : (broadcastInDim S8x2x16384 ![] bcast_S_S8x2x16384 (constant S_ .f32 0xFF800000#32) : FVec Ideal S8x2x16384 .f32) (ix3 h j q)
      = Ideal.ofBits .f32 0xFF800000#32 := by
    pointwise
  exact (maximumf_at _ _ _).trans (congrArg₂ max hb (max_at T q h j))

/-- The weights before they are divided by their sum. -/
abbrev exps (T : FVec Ideal S8x2x16384x16384 .f32) : FVec Ideal S8x2x16384x16384 .f32 :=
  Host.exp (subf T (broadcastInDim S8x2x16384x16384 ![0, 1, 2, 3] bcast_S8x2x16384x1_S8x2x16384x16384_0_1_2_3
      (broadcastInDim S8x2x16384x1 ![0, 1, 2] bcast_S8x2x16384_S8x2x16384x1_0_1_2 (maxes T))))

theorem exps_at (T : FVec Ideal S8x2x16384x16384 .f32) (q n : Fin 16384) (h : Fin 8) (j : Fin 2) :
    exps T (ix4 h j q n) = Ideal.exp (T (ix4 h j q n) - maxes T (ix3 h j q)) := by
  rw [← spread_at (maxes T) q n h j]
  rfl

/-- The maximum of a row of scores is real when none is `⊤` and one is no `⊥`. -/
theorem maxes_real (T : FVec Ideal S8x2x16384x16384 .f32) (hT : ∀ i, T i ≠ ⊤) (q n : Fin 16384) (h : Fin 8) (j : Fin 2)
    (h0 : T (ix4 h j q n) ≠ ⊥) : ∃ μ : ℝ, maxes T (ix3 h j q) = (μ : EReal) := by
  rw [maxes_at, negInf, max_eq_right bot_le]
  refine fold_real _ T (fun c _ => hT c) (c₀ := ix4 h j q n) ?_ h0
  rw [Finset.mem_filter]
  refine ⟨Finset.mem_univ _, ?_⟩
  funext x
  fin_cases x <;> rfl

/-- The quotients. -/
abbrev soft (E : FVec Ideal S8x2x16384x16384 .f32) : FVec Ideal S8x2x16384x16384 .f32 :=
  Host.divf E (broadcastInDim S8x2x16384x16384 ![0, 1, 2, 3] bcast_S8x2x16384x1_S8x2x16384x16384_0_1_2_3
    (broadcastInDim S8x2x16384x1 ![0, 1, 2] bcast_S8x2x16384_S8x2x16384x1_0_1_2
      (Host.reduceAdd E (constant S_ .f32 0x00000000#32) reducesTo_S8x2x16384x16384_S8x2x16384_d3 h_S_)))

theorem soft_at (E : FVec Ideal S8x2x16384x16384 .f32) (q n : Fin 16384) (h : Fin 8) (j : Fin 2) :
    soft E (ix4 h j q n) = Ideal.div (E (ix4 h j q n)) (∑ x, E (ix4 h j q x)) := by
  pointwise

theorem map0_at (T : FVec Ideal S8x2x16384x16384 .f32) (q n : Fin 16384) (h : Fin 8) :
    (shapeCast S8x16384x16384 (extractStridedSlice S8x1x16384x16384 ![0, 0, 0, 0] T
      slices_S8x2x16384x16384_S8x1x16384x16384_0_0_0_0) shapeCasts_S8x1x16384x16384_S8x16384x16384 :
        FVec Ideal S8x16384x16384 .f32) (ix3 h q n) = T (ix4 h 0 q n) := by
  pointwise

theorem map1_at (T : FVec Ideal S8x2x16384x16384 .f32) (q n : Fin 16384) (h : Fin 8) :
    (shapeCast S8x16384x16384 (extractStridedSlice S8x1x16384x16384 ![0, 1, 0, 0] T
      slices_S8x2x16384x16384_S8x1x16384x16384_0_1_0_0) shapeCasts_S8x1x16384x16384_S8x16384x16384 :
        FVec Ideal S8x16384x16384 .f32) (ix3 h q n) = T (ix4 h 1 q n) := by
  pointwise

theorem values_at (A : FVec Ideal S16384x6144 .bf16) (q : Fin 16384) (h : Fin 8) (e : Fin 256) :
    (shapeCast S16384x8x256 (extractStridedSlice S16384x2048 ![0, 4096] (extf .f32 A bitsLt_bf16_f32)
      slices_S16384x6144_S16384x2048_0_4096) shapeCasts_S16384x2048_S16384x8x256 : FVec Ideal S16384x8x256 .f32) (ix3 q h e)
      = A (ix2 q (vcol h e)) := by
  pointwise
  rfl

theorem product_at (v : FVec Ideal S16384x8x256 .f32) (w : FVec Ideal S8x16384x16384 .f32) (q : Fin 16384) (h : Fin 8) (e : Fin 256) :
    (transpose S16384x8x256 [2, 0, 1] (Host.dotGeneral dot_S16384x8x256_S8x16384x16384_S8x256x16384_0_2_2_1_1_0 none v w)
      transposes_S8x256x16384_S16384x8x256_2_0_1 : FVec Ideal S16384x8x256 .f32) (ix3 q h e)
      = ∑ x, v (ix3 x h e) * w (ix3 h q x) := by
  pointwise

/-- lambda. -/
abbrev lamT (a b c d : FVec Ideal S1x128 .f32) : FVec Ideal S_ .f32 :=
  addf (subf (Host.exp (Host.reduceAdd (mulf (shapeCast _ a shapeCasts_S1x128_S128) (shapeCast _ b shapeCasts_S1x128_S128))
      (constant S_ .f32 0x00000000#32) reducesTo_S128_S_d0 h_S_))
    (Host.exp (Host.reduceAdd (mulf (shapeCast _ c shapeCasts_S1x128_S128) (shapeCast _ d shapeCasts_S1x128_S128))
      (constant S_ .f32 0x00000000#32) reducesTo_S128_S_d0 h_S_))) (constant S_ .f32 0x3E4CCCCD#32)

theorem lamT_at (a b c d : FVec Ideal S1x128 .f32) : lamT a b c d ix0
    = lamE (fun x => a (ix2 0 x)) (fun x => b (ix2 0 x)) (fun x => c (ix2 0 x)) (fun x => d (ix2 0 x)) := by
  pointwise
  rfl

/-- The difference of the two maps. -/
abbrev diff (W : FVec Ideal S8x2x16384x16384 .f32) (l : FVec Ideal S_ .f32) : FVec Ideal S8x16384x16384 .f32 :=
  subf (shapeCast _ (extractStridedSlice S8x1x16384x16384 ![0, 0, 0, 0] W slices_S8x2x16384x16384_S8x1x16384x16384_0_0_0_0)
      shapeCasts_S8x1x16384x16384_S8x16384x16384)
    (mulf (broadcastInDim S8x16384x16384 ![] bcast_S_S8x16384x16384 l)
      (shapeCast _ (extractStridedSlice S8x1x16384x16384 ![0, 1, 0, 0] W slices_S8x2x16384x16384_S8x1x16384x16384_0_1_0_0)
        shapeCasts_S8x1x16384x16384_S8x16384x16384))

theorem diff_at (W : FVec Ideal S8x2x16384x16384 .f32) (l : FVec Ideal S_ .f32) (q n : Fin 16384) (h : Fin 8) :
    diff W l (ix3 h q n) = W (ix4 h 0 q n) - l ix0 * W (ix4 h 1 q n) := by
  rw [← map0_at W q n h, ← map1_at W q n h]
  have hl : (broadcastInDim S8x16384x16384 ![] bcast_S_S8x16384x16384 l : FVec Ideal S8x16384x16384 .f32) (ix3 h q n) = l ix0 := by
    pointwise
  rw [← hl]
  rfl

/-- The norm, the gain and the factor. -/
abbrev post (o : FVec Ideal S16384x8x256 .f32) (g : FVec Ideal S1x256 .f32) : FVec Ideal S16384x2048 .bf16 :=
  truncf .bf16 (shapeCast _ (mulf (mulf (mulf o (broadcastInDim S16384x8x256 ![0, 1, 2] bcast_S16384x8x1_S16384x8x256_0_1_2
    (Host.rsqrt (addf (Host.divf (broadcastInDim S16384x8x1 ![0, 1] bcast_S16384x8_S16384x8x1_0_1
      (Host.reduceAdd (mulf o o) (constant S_ .f32 0x00000000#32) reducesTo_S16384x8x256_S16384x8_d2 h_S_))
      (broadcastInDim S16384x8x1 ![] bcast_S_S16384x8x1 (constant S_ .f32 0x43800000#32)))
      (broadcastInDim S16384x8x1 ![] bcast_S_S16384x8x1 (constant S_ .f32 0x3727C5AC#32))))))
    (broadcastInDim S16384x8x256 ![0, 1, 2] bcast_S1x1x256_S16384x8x256_0_1_2 (broadcastInDim S1x1x256 ![2] bcast_S256_S1x1x256_2
      (shapeCast _ g shapeCasts_S1x256_S256)))) (broadcastInDim S16384x8x256 ![] bcast_S_S16384x8x256 (constant S_ .f32 0x3F4CCCCD#32)))
    shapeCasts_S16384x8x256_S16384x2048) bitsLt_bf16_f32

theorem post_at (o : FVec Ideal S16384x8x256 .f32) (g : FVec Ideal S1x256 .f32) (q : Fin 16384) (h : Fin 8) (e : Fin 256)
    (col : Fin 2048) (hc : col.val = h.val * 256 + e.val) :
    post o g (ix2 q col) = norm (fun e => o (ix3 q h e)) (g (ix2 0 e)) e := by
  rw [show col = ⟨h.val * 256 + e.val, by omega⟩ from Fin.ext hc]
  pointwise
  rfl

end Cert.ReferenceIdeal.Ref
-- ==== Proof.Ref.lean ====
/- What the reference computes, at an index. -/
module

public import proofs.«01_k».proof.Proof.RefOps
public import proofs.«01_k».proof.Proof.Words

@[expose] public section

set_option maxRecDepth 16384

noncomputable section

namespace Cert.ReferenceIdeal.Ref

open Idealize.ShloMosaic Idealize.ShloMosaic.TcCoe Idealize.SL.Sem Cert.ReferenceIdeal Cert.ReferenceIdeal.Value Cert.ReferenceIdeal.Gen
  Cert.Softmax Cert.Keys Cert.Common

theorem post_norm (o : FVec Ideal S16384x8x256 .f32) (g : FVec Ideal S1x256 .f32) (q : Fin 16384) (h : Fin 8) (e : Fin 256)
    (col : Fin 2048) (hc : col.val = h.val * 256 + e.val) (f : Fin 256 → EReal) (ho : ∀ e, o (ix3 q h e) = f e) :
    post o g (ix2 q col) = norm f (g (ix2 0 e)) e :=
  (post_at o g q h e col hc).trans (congrArg (fun f => norm f (g (ix2 0 e)) e) (funext ho))

section
variable (V0 : Valuation τ sig (Elt Ideal))

/-- The arguments and the intermediate results, as tensors. -/
abbrev qkv : FVec Ideal S16384x6144 .bf16 := V0 (Proc.devRef .tc main_arg0)
abbrev lq1 : FVec Ideal S1x128 .f32 := V0 (Proc.devRef .tc main_arg1)
abbrev lk1 : FVec Ideal S1x128 .f32 := V0 (Proc.devRef .tc main_arg2)
abbrev lq2 : FVec Ideal S1x128 .f32 := V0 (Proc.devRef .tc main_arg3)
abbrev lk2 : FVec Ideal S1x128 .f32 := V0 (Proc.devRef .tc main_arg4)
abbrev gain : FVec Ideal S1x256 .f32 := V0 (Proc.devRef .tc main_arg5)
abbrev scoresT : FVec Ideal S8x2x16384x16384 .f32 := res_main_v55 V0
abbrev softT : FVec Ideal S8x2x16384x16384 .f32 := res_main_v66 V0
abbrev mixedT : FVec Ideal S16384x8x256 .f32 := res_main_v75 V0

theorem scores_at (q n : Fin 16384) (h : Fin 8) (j : Fin 2) : scoresT V0 (ix4 h j q n)
    = Scalar.select (IntOp.cmpi .sle (Words.floorDiv (BitVec.ofNat 32 n.val)) (Words.floorDiv (BitVec.ofNat 32 q.val)))
      ((∑ d, qkv V0 (ix2 q (qcol h (place j d))) * qkv V0 (ix2 n (kcol h (place j d))))
          * Ideal.log (Ideal.ofBits .f32 0x40000000#32)
        - slopeE h.val * (FloatOps.sitofp .f32 (IntOp.absi (IntOp.subi (BitVec.ofNat 32 q.val) (BitVec.ofNat 32 n.val))) : Ideal .f32))
      (Ideal.ofBits .f32 0xFF800000#32) := by
  pointwise [scoresT, qkv, res_main_v55, res_main_v0, res_main_v42, res_main_v44, res_main_v30, res_main_call0_v0, res_main_call0_v2,
    res_main_call1_v0, res_main_call1_v2]
  have e1 : ∀ d : Fin 128, qcol h (place j d) = ⟨h.val * 256 + j.val * 128 + d.val, by omega⟩ := fun d =>
    Fin.ext (by simp only [qcol, place]; omega)
  have e2 : ∀ d : Fin 128, kcol h (place j d) = ⟨2048 + (h.val * 256 + j.val * 128 + d.val), by omega⟩ := fun d =>
    Fin.ext (by simp only [kcol, place]; omega)
  simp only [e1, e2]
  rfl

theorem w62 : res_main_v62 V0 = exps (scoresT V0) := by
  unfold res_main_v62; rfl

theorem w66 : softT V0 = soft (exps (scoresT V0)) := by
  unfold softT res_main_v66; rw [w62]

theorem w75 (q : Fin 16384) (h : Fin 8) (e : Fin 256) : mixedT V0 (ix3 q h e)
    = ∑ n : Fin 16384, qkv V0 (ix2 n (vcol h e)) * (softT V0 (ix4 h 0 q n)
        - lamE (fun x => lq1 V0 (ix2 0 x)) (fun x => lk1 V0 (ix2 0 x))
            (fun x => lq2 V0 (ix2 0 x)) (fun x => lk2 V0 (ix2 0 x))
          * softT V0 (ix4 h 1 q n)) := by
  unfold mixedT res_main_v75
  refine (product_at _ (diff (softT V0) (lamT (lq1 V0) (lk1 V0)
    (lq2 V0) (lk2 V0))) q h e).trans (Finset.sum_congr rfl fun n _ => ?_)
  rw [diff_at, lamT_at]
  exact congrArg (· * _) (values_at _ n h e)

variable {V0}
variable {x : Fin 16384 → Fin 6144 → ℝ} (hx : ∀ n col, qkv V0 (ix2 n col) = (x n col : EReal))
variable {s : ℝ} {h : Fin 8} (hs : slopeE h.val = (s : EReal))

include hx hs

theorem score_real (q n : Fin 16384) (j : Fin 2) : scoresT V0 (ix4 h j q n)
    = if ok q.val n.val then ((score x h j q.val n.val * Real.log 2 - s * ((|(q.val : ℤ) - n.val| : ℤ) : ℝ) : ℝ) : EReal) else ⊥ := by
  have hsum : ∑ d, ((x q (qcol h (place j d)) : ℝ) : EReal) * ((x n (kcol h (place j d)) : ℝ) : EReal)
      = ((score x h j q.val n.val : ℝ) : EReal) := by
    unfold score
    rw [coe_sum]
    exact Finset.sum_congr rfl fun d _ => by rw [at0_val, at0_val, EReal.coe_mul]
  rw [scores_at, Words.floorDiv_eq _ n.isLt, Words.floorDiv_eq _ q.isLt, Words.select_le _ _ (by omega) (by omega), log2_two, negInf, hs]
  simp only [hx]
  rw [hsum, show (FloatOps.sitofp .f32 (IntOp.absi (IntOp.subi (BitVec.ofNat 32 q.val) (BitVec.ofNat 32 n.val))) : Ideal .f32)
    = (((IntOp.absi (IntOp.subi (BitVec.ofNat 32 q.val) (BitVec.ofNat 32 n.val))).toInt : ℝ) : EReal) from rfl,
    Words.dist _ _ q.isLt n.isLt, ← EReal.coe_mul, ← EReal.coe_mul, ← EReal.coe_sub]

theorem ewt_score (q n : Fin 16384) (j : Fin 2) : ewt (scoresT V0 (ix4 h j q n)) = weight s (score x h j q.val) q.val n.val := by
  rw [score_real hx hs, weight]
  split_ifs
  exacts [ewt_coe _, ewt_bot]

/-- The softmax, as a real. -/
theorem weight_at (hT : ∀ i, scoresT V0 i ≠ ⊤) (q n : Fin 16384) (j : Fin 2) : softT V0 (ix4 h j q n)
    = ((weight s (score x h j q.val) q.val n.val / ∑ n' : Fin 16384, weight s (score x h j q.val) q.val n'.val : ℝ) : EReal) := by
  have h0 : scoresT V0 (ix4 h j q q) ≠ ⊥ := by
    rw [score_real hx hs, if_pos (le_refl _)]
    exact EReal.coe_ne_bot _
  obtain ⟨μ, hμ⟩ := maxes_real (scoresT V0) hT q q h j h0
  have he : ∀ n', exps (scoresT V0) (ix4 h j q n')
      = ((weight s (score x h j q.val) q.val n'.val * Real.exp (-μ) : ℝ) : EReal) := fun n' => by
    rw [exps_at, hμ, exp_sub (hT _), ewt_score hx hs]
  have hw : ∀ n' : ℕ, 0 ≤ weight s (score x h j q.val) q.val n' := fun n' => by
    unfold weight; split_ifs <;> positivity
  have hpos : 0 < ∑ n' : Fin 16384, weight s (score x h j q.val) q.val n'.val := by
    refine Finset.sum_pos' (fun n' _ => hw _) ⟨q, Finset.mem_univ _, ?_⟩
    rw [weight, if_pos (le_refl _)]
    positivity
  rw [w66, soft_at]
  simp only [he]
  rw [← coe_sum, ← Finset.sum_mul, div_real _ (mul_ne_zero hpos.ne' (Real.exp_pos _).ne'), mul_div_mul_right _ _ (Real.exp_pos _).ne']

/-- The rows before the norm. -/
theorem mixed_at (hT : ∀ i, scoresT V0 i ≠ ⊤) {l : ℝ}
    (hl : lamE (fun x => lq1 V0 (ix2 0 x)) (fun x => lk1 V0 (ix2 0 x))
            (fun x => lq2 V0 (ix2 0 x)) (fun x => lk2 V0 (ix2 0 x)) = (l : EReal))
    (q : Fin 16384) (e : Fin 256) : mixedT V0 (ix3 q h e) = mixed x s (l : EReal) h q.val e := by
  rw [w75, hl]
  simp only [hx, weight_at hx hs hT]
  unfold mixed avg
  simp only [← EReal.coe_mul, ← EReal.coe_sub, ← coe_sum]
  rw [EReal.coe_eq_coe_iff, Finset.sum_div, Finset.sum_div, Finset.mul_sum, ← Finset.sum_sub_distrib]
  refine Finset.sum_congr rfl fun n _ => ?_
  rw [at0_val]
  ring

omit hs in
theorem ne_top (i : S8x2x16384x16384.Idx) : scoresT V0 i ≠ ⊤ := by
  idx_vars i
  obtain ⟨s, _, hs⟩ := slope_real i0.val
  rw [score_real hx hs]
  split_ifs
  exacts [EReal.coe_ne_top _, bot_ne_top]

/-- One element of the result. -/
theorem result_at {l : ℝ}
    (hl : lamE (fun x => lq1 V0 (ix2 0 x)) (fun x => lk1 V0 (ix2 0 x)) (fun x => lq2 V0 (ix2 0 x)) (fun x => lk2 V0 (ix2 0 x)) = (l : EReal))
    (q : Fin 16384) (e : Fin 256) (col : Fin 2048) (hc : col.val = h.val * 256 + e.val) :
    post (mixedT V0) (gain V0) (ix2 q col) = norm (mixed x s (l : EReal) h q.val) (gain V0 (ix2 0 e)) e := by
  exact post_norm _ _ q h e col hc _ (mixed_at hx hs (ne_top hx) hl q)

end

end Cert.ReferenceIdeal.Ref
-- ==== Proof.Finite.lean ====
/- The precondition, as real values. -/
module

public import proofs.«01_k».proof.Defs
public import proofs.«01_k».proof.Proof.Gen.Pre_finite
public import Idealize.ShloMosaic.Lib.Pipeline.ValueKit

@[expose] public section

set_option maxRecDepth 16384

noncomputable section

namespace Cert.Finite

open Idealize.ShloMosaic Idealize.ShloMosaic.TcCoe Cert.Pre_finite

/-- A value whose absolute value is less than infinity is real. -/
theorem real_of (y : EReal) (h : BitVec.ofBool (decide ((FloatOps.absf (y : Ideal .f32) : Ideal .f32) < Ideal.ofBits .f32 0x7F800000#32)) = 1#1) :
    ∃ r : ℝ, y = r := by
  have ht : Ideal.ofBits .f32 0x7F800000#32 = (⊤ : EReal) := by simp [Ideal.ofBits, Ideal.ieee]
  rw [ht] at h
  induction y with
  | coe r => exact ⟨r, rfl⟩
  | bot =>
    have : (FloatOps.absf ((⊥ : EReal) : Ideal .f32) : Ideal .f32) = (⊤ : EReal) := by
      show max _ _ = _
      simp
    rw [this] at h
    simp at h
  | top =>
    have : (FloatOps.absf ((⊤ : EReal) : Ideal .f32) : Ideal .f32) = (⊤ : EReal) := by
      show max _ _ = _
      simp
    rw [this] at h
    simp at h

variable (x : FVec Ideal S16384x6144 .bf16) (a b c d : FVec Ideal S1x128 .f32) (g : FVec Ideal S1x256 .f32)

/-- Each component of the precondition, at an index. -/
theorem real0 (h : (fn x a b c d g).1 = fun _ => 1#1) (n : Fin 16384) (k : Fin 6144) : ∃ r : ℝ, x (ix2 n k) = (r : EReal) := by
  have h := congrFun h (ix2 n k)
  revert h
  pointwise [fn]
  exact real_of _

theorem real1 (h : (fn x a b c d g).2.1 = fun _ => 1#1) (e : Fin 128) : ∃ r : ℝ, a (ix2 0 e) = (r : EReal) := by
  have h := congrFun h (ix2 0 e)
  revert h
  pointwise [fn]
  exact real_of _

theorem real2 (h : (fn x a b c d g).2.2.1 = fun _ => 1#1) (e : Fin 128) : ∃ r : ℝ, b (ix2 0 e) = (r : EReal) := by
  have h := congrFun h (ix2 0 e)
  revert h
  pointwise [fn]
  exact real_of _

theorem real3 (h : (fn x a b c d g).2.2.2.1 = fun _ => 1#1) (e : Fin 128) : ∃ r : ℝ, c (ix2 0 e) = (r : EReal) := by
  have h := congrFun h (ix2 0 e)
  revert h
  pointwise [fn]
  exact real_of _

theorem real4 (h : (fn x a b c d g).2.2.2.2 = fun _ => 1#1) (e : Fin 128) : ∃ r : ℝ, d (ix2 0 e) = (r : EReal) := by
  have h := congrFun h (ix2 0 e)
  revert h
  pointwise [fn]
  exact real_of _

end Cert.Finite
-- ==== Proof.Final.lean ====
/- The kernel's result array is the reference's. -/
module

public import proofs.«01_k».proof.Proof.Point
public import proofs.«01_k».proof.Proof.Ref
public import proofs.«01_k».proof.Proof.Finite
public import proofs.«01_k».proof.Proof.Gen.KernelIdeal.Value
public import Idealize.ShloMosaic.Lib.Claim

@[expose] public section

set_option maxRecDepth 16384

noncomputable section

namespace Cert.KernelIdeal.Final

open Idealize.ShloMosaic Idealize.ShloMosaic.TcCoe Idealize.SL.Sem Cert.KernelIdeal Cert.KernelIdeal.Gen Cert.KernelIdeal.Step
  Cert.KernelIdeal.Loop Cert.KernelIdeal.Point Cert.Common Cert.ReferenceIdeal

section
variable (m : (ℓ : Loc nD τ sig) → Buf (Elt Ideal) ℓ) (c : Dev nD)

/-- The column of the array that a column of a point's block is. -/
def ocol (t : Fin cfg0.N) (e : Fin 256) : Fin 2048 := ⟨t.val / 32 * 256 + e.val, by have h : t.val < 256 := t.isLt; omega⟩

/-- What the run leaves in the window's buffer. -/
theorem left_eq (t : Fin cfg0.N) : outsAt0 m c t = Stored.outBlock (refs t) (ins m c t) c (grid0.coords t) := by
  rw [← Stored.out_block]
  unfold outsAt0 refs ins
  with_reducible rfl

/-- The result array, from what the body leaves at each point. -/
theorem final (G : FVec Ideal S16384x2048 .bf16)
    (hG : ∀ (t : Fin cfg0.N) (r : Fin 512) (e : Fin 256),
      Stored.outBlock (refs t) (ins m c t) c (grid0.coords t) (ix2 r e) = G (ix2 (qrow t r) (ocol t e))) :
    (dats m 0 c).arrAt 10 cfg0.N = G := by
  refine (dats m 0 c).arrAt_eq_of_covers 10 G (by decide +kernel) fun t _ y => ?_
  blk_simp
  rw [after0_10]
  rw [left_eq]
  idx_vars y
  refine (hG t _ _).trans ?_
  unfold qrow ocol
  blk_ext [idx t]

/-- At real queries, keys, values and vectors the result array is the reference's result. -/
theorem agree (V0 : Valuation Cert.ReferenceIdeal.τ Cert.ReferenceIdeal.sig (Elt Ideal))
    (h0 : Ref.qkv V0 = a0 m c)
    (h1 : Ref.lq1 V0 = a1 m c)
    (h2 : Ref.lk1 V0 = a2 m c)
    (h3 : Ref.lq2 V0 = a3 m c)
    (h4 : Ref.lk2 V0 = a4 m c)
    (h5 : Ref.gain V0 = a5 m c)
    (r0 : ∀ n k, ∃ r : ℝ, a0 m c (ix2 n k) = (r : EReal)) (r1 : ∀ e, ∃ r : ℝ, a1 m c (ix2 0 e) = (r : EReal))
    (r2 : ∀ e, ∃ r : ℝ, a2 m c (ix2 0 e) = (r : EReal)) (r3 : ∀ e, ∃ r : ℝ, a3 m c (ix2 0 e) = (r : EReal))
    (r4 : ∀ e, ∃ r : ℝ, a4 m c (ix2 0 e) = (r : EReal)) :
    (dats m 0 c).arrAt 10 cfg0.N = Ref.post (Ref.mixedT V0) (Ref.gain V0) := by
  choose x hx using r0
  obtain ⟨l, hl⟩ := lam_real _ _ _ _ r1 r2 r3 r4
  refine final m c _ fun t r e => ?_
  obtain ⟨s, hpos, hs⟩ := slope_real (head t).val
  have hx' : ∀ n col, Ref.qkv V0 (ix2 n col) = (x n col : EReal) := fun n col => (congrFun h0 _).trans (hx n col)
  have hl' : lamE (fun x => Ref.lq1 V0 (ix2 0 x)) (fun x => Ref.lk1 V0 (ix2 0 x)) (fun x => Ref.lq2 V0 (ix2 0 x))
      (fun x => Ref.lk2 V0 (ix2 0 x)) = (l : EReal) := by
    rw [h1, h2, h3, h4]
    exact hl
  refine (out_eq hx t hpos hs r e).trans ?_
  rw [hl, Ref.result_at hx' hs hl' (qrow t r) e (ocol t e) rfl, h5]

end

end Cert.KernelIdeal.Final
-- ==== Proof.Algebraic.lean ====
/- The algebraic claim. -/
module

public import proofs.«01_k».proof.Proof.Final

@[expose] public section

set_option maxRecDepth 16384

noncomputable section

namespace Cert.Proof

open Idealize.ShloMosaic Idealize.ShloMosaic.TcCoe Idealize.SL.Sem

/-- The idealized kernel and the reference end with the same result. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  pair_intro
  · run_from Cert.KernelIdeal.Value.run_blocks m g
  · refine (θ_run _ _ _).mono (fun r h c => ⟨(h c).1.trans ?_, (h c).2⟩) (Cert.ReferenceIdeal.Value.run m' g')
    obtain ⟨e0, e1, e2, e3, e4, e5⟩ := hagree c
    obtain ⟨p0, p1, p2, p3, p4⟩ := hpre c
    exact (Cert.KernelIdeal.Final.agree m c (StableHlo.launchContents m' c) e0 e1 e2 e3 e4 e5
      (Cert.Finite.real0 _ _ _ _ _ _ p0) (Cert.Finite.real1 _ _ _ _ _ _ p1) (Cert.Finite.real2 _ _ _ _ _ _ p2)
      (Cert.Finite.real3 _ _ _ _ _ _ p3) (Cert.Finite.real4 _ _ _ _ _ _ p4)).symm

end Cert.Proof
-- ==== Proof.Merge.lean ====
/- The gated sum of the two branches. -/
module

public import proofs.«01_k».proof.Defs
public import proofs.«01_k».proof.Proof.Gen.KernelMergeIdeal.Value
public import proofs.«01_k».proof.Proof.Gen.ReferenceMergeIdeal.Run
public import Idealize.ShloMosaic.Lib.Pipeline.ValueKit
public import Idealize.ShloMosaic.Lib.Claim

@[expose] public section

set_option maxRecDepth 16384

noncomputable section

namespace Cert.ReferenceMergeIdeal.Value

open Idealize.ShloMosaic Idealize.ShloMosaic.TcCoe Idealize.SL.Sem Cert.ReferenceMergeIdeal Cert.ReferenceMergeIdeal.Gen

/-- The reference's result. -/
def merged (o z : FVec Ideal S16384x2048 .bf16) (wa wc : FVec Ideal S2048x2048 .bf16) (bc : FVec Ideal S1x2048 .f32)
    (gates : FVec Ideal S16384x4096 .bf16) : FVec Ideal S16384x2048 .bf16 :=
  truncf .bf16
    (addf (mulf (extractStridedSlice S16384x2048 ![0, 0] (extf .f32 gates bitsLt_bf16_f32) slices_S16384x4096_S16384x2048_0_0) (Host.dotGeneral dot_S16384x2048_S2048x2048_S16384x2048_1_0_0_1_n_n none (extf .f32 o bitsLt_bf16_f32) (extf .f32 wa bitsLt_bf16_f32)))
      (mulf (extractStridedSlice S16384x2048 ![0, 2048] (extf .f32 gates bitsLt_bf16_f32) slices_S16384x4096_S16384x2048_0_2048) (addf (Host.dotGeneral dot_S16384x2048_S2048x2048_S16384x2048_1_0_0_1_n_n none (extf .f32 z bitsLt_bf16_f32) (extf .f32 wc bitsLt_bf16_f32)) (broadcastInDim S16384x2048 ![0, 1] bcast_S1x2048_S16384x2048_0_1 bc)))) bitsLt_bf16_f32

end Cert.ReferenceMergeIdeal.Value

namespace Cert.KernelMergeIdeal.Merged

open Idealize.ShloMosaic Idealize.ShloMosaic.TcCoe Idealize.SL.Sem Cert.KernelMergeIdeal Cert.KernelMergeIdeal.Gen

/-- The blocks that each grid point stages. -/
theorem idx : ∀ t : Fin cfg0.N, win0_0.index t = ![t.val / 2, 0] ∧ win0_1.index t = ![t.val / 2, 0]
    ∧ win0_2.index t = ![0, t.val % 2] ∧ win0_3.index t = ![0, t.val % 2] ∧ win0_4.index t = ![0, t.val % 2]
    ∧ win0_5.index t = ![t.val / 2, t.val % 2] ∧ win0_6.index t = ![t.val / 2, 2 + t.val % 2]
    ∧ win0_7.index t = ![t.val / 2, t.val % 2] :=
  (by decide +kernel : ∀ t : Fin grid0.N, _)

variable (m : (ℓ : Loc nD τ sig) → Buf (Elt Ideal) ℓ) (c : Dev nD)

/-- The result, of the arguments in memory. -/
abbrev goal : FVec Ideal S16384x2048 .bf16 :=
  Cert.ReferenceMergeIdeal.Value.merged (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- An element of the block that a point stores. -/
theorem point (t : Fin cfg0.N) (y) : k0_pay1 (iblk m c 0 t) (iblk m c 2 t) (iblk m c 1 t) (iblk m c 3 t) (iblk m c 4 t)
    (iblk m c 5 t) (iblk m c 6 t) y = goal m c (((cfg0.win 7).blk t).view.emb y) := by
  pointwise [k0_pay1, goal, Cert.ReferenceMergeIdeal.Value.merged]
  blk_point [iblk, V, idx t]

/-- The result array. -/
theorem final : (dats m 0 c).arrAt 7 cfg0.N = goal m c := by
  refine (dats m 0 c).arrAt_eq_of_covers 7 _ (by decide +kernel) fun t _ y => ?_
  blk_simp
  rw [after0_7]
  frame_out
  exact point m c t y

end Cert.KernelMergeIdeal.Merged

namespace Cert.Proof

open Idealize.ShloMosaic Idealize.ShloMosaic.TcCoe Idealize.SL.Sem

/-- The kernel and the reference end with the same gated sum. -/
theorem algebraic_merge : Cert.algebraic_KernelMergeIdeal_ReferenceMergeIdeal
    (hKernelMergeIdeal := Cert.KernelMergeIdeal.Gen.facts) (hReferenceMergeIdeal := Cert.ReferenceMergeIdeal.Gen.facts) := by
  pair_intro
  · run_from Cert.KernelMergeIdeal.Value.run_blocks m g
  · refine (θ_run _ _ _).mono (fun r h c => ⟨(h c).1.trans ?_, (h c).2⟩) (Cert.ReferenceMergeIdeal.Value.run m' g')
    obtain ⟨e0, e1, e2, e3, e4, e5⟩ := hagree c
    rw [Cert.KernelMergeIdeal.Merged.final m c, Cert.KernelMergeIdeal.Merged.goal, e0, e1, e2, e3, e4, e5]
    rfl

/-- The reference ends, with its arguments as they were and every semaphore at zero. -/
theorem reference_merge : Cert.quiescent_ReferenceMergeIdeal (hReferenceMergeIdeal := Cert.ReferenceMergeIdeal.Gen.facts) := by
  intro m g _
  exact (θ_run Cert.ReferenceMergeIdeal.defs _ _).mono (fun r h => ⟨fun c => (h c).2, sem_eq_zero_of_no_sems (by decide) r.2⟩)
    (Cert.ReferenceMergeIdeal.Value.run (F := Ideal) m g)

end Cert.Proof
-- ==== Proof.Mixout.lean ====
/- The output projection of the mixers with the residual, and the norm before the feed-forward part. -/
module

public import proofs.«01_k».proof.Defs
public import proofs.«01_k».proof.Proof.Gen.KernelMixoutIdeal.Value
public import proofs.«01_k».proof.Proof.Gen.ReferenceMixoutIdeal.Run
public import Idealize.ShloMosaic.Lib.Pipeline.ValueKit
public import Idealize.ShloMosaic.Lib.Claim

@[expose] public section

set_option maxRecDepth 16384

noncomputable section

namespace Cert.ReferenceMixoutIdeal.Value

open Idealize.ShloMosaic Idealize.ShloMosaic.TcCoe Idealize.SL.Sem Cert.ReferenceMixoutIdeal Cert.ReferenceMixoutIdeal.Gen

/-- The residual plus the product: the first result. -/
def resid (a : FVec Ideal S16384x2048 .bf16) (w : FVec Ideal S2048x2048 .bf16) (x : FVec Ideal S16384x2048 .f32) :
    FVec Ideal S16384x2048 .f32 :=
  addf x (Host.dotGeneral dot_S16384x2048_S2048x2048_S16384x2048_1_0_0_1_n_n none
    (extf .f32 a bitsLt_bf16_f32) (extf .f32 w bitsLt_bf16_f32))

/-- The norm of every row: the second result, of the first. -/
def norm (h : FVec Ideal S16384x2048 .f32) (g : FVec Ideal S1x2048 .f32) : FVec Ideal S16384x2048 .bf16 :=
  truncf .bf16 (mulf (mulf h
    (broadcastInDim S16384x2048 ![0, 1] bcast_S16384x1_S16384x2048_0_1 (Host.rsqrt (addf (Host.divf
      (broadcastInDim S16384x1 ![0] bcast_S16384_S16384x1_0 (Host.reduceAdd (mulf h h) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x3727C5AC#32))))))
    (broadcastInDim S16384x2048 ![0, 1] bcast_S1x2048_S16384x2048_0_1 g)) bitsLt_bf16_f32

end Cert.ReferenceMixoutIdeal.Value

namespace Cert.KernelMixoutIdeal.Mixed

open Idealize.ShloMosaic Idealize.ShloMosaic.TcCoe Idealize.SL.Sem Cert.KernelMixoutIdeal Cert.KernelMixoutIdeal.Gen
  Cert.ReferenceMixoutIdeal.Value

/-- The blocks that each grid point stages. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The norm of a block of sums is the norm of those rows. -/
theorem norm_at (h : FVec Ideal S512x2048 .f32) (A : FVec Ideal S512x2048 .bf16) (B : FVec Ideal S2048x2048 .bf16)
    (b : FVec Ideal S1x2048 .f32) (x : FVec Ideal S16384x2048 .f32) (g : FVec Ideal S1x2048 .f32) (q : Fin 512 → Fin 16384)
    (hS : ∀ r e, k0_pay1 h A B (ix2 r e) = x (ix2 (q r) e)) (hb : ∀ e, b (ix2 0 e) = g (ix2 0 e)) (r : Fin 512) (e : Fin 2048) :
    k0_pay2 h A B b (ix2 r e) = Cert.ReferenceMixoutIdeal.Value.norm x g (ix2 (q r) e) := by
  pointwise [k0_pay2, Cert.ReferenceMixoutIdeal.Value.norm]
  simp only [hS, hb]

variable (m : (ℓ : Loc nD τ sig) → Buf (Elt Ideal) ℓ) (c : Dev nD)

/-- The first result, of the arguments in memory. -/
abbrev goal : FVec Ideal S16384x2048 .f32 :=
  resid (m ((c : Thread nD τ).loc main_arg0)) (m ((c : Thread nD τ).loc main_arg1)) (m ((c : Thread nD τ).loc main_arg2))

/-- An element of the first block that a point stores. -/
theorem point (t : Fin cfg0.N) (y) : k0_pay1 (iblk m c 2 t) (iblk m c 0 t) (iblk m c 1 t) y
    = goal m c (((cfg0.win 4).blk t).view.emb y) := by
  pointwise [k0_pay1, goal, resid]
  blk_point [iblk, V, idx t]

/-- An element of the second block that a point stores. -/
theorem point_norm (t : Fin cfg0.N) (y) : k0_pay2 (iblk m c 2 t) (iblk m c 0 t) (iblk m c 1 t) (iblk m c 3 t) y
    = norm (goal m c) (m ((c : Thread nD τ).loc main_arg3)) (((cfg0.win 5).blk t).view.emb y) := by
  have ht : t.val < 32 := lt_of_lt_of_eq t.isLt N_0
  idx_vars y
  have hrow : ∀ r e, ((cfg0.win 4).blk t).view.emb (ix2 r e) = (ix2 ⟨t.val * 512 + r.val, by omega⟩ e : S16384x2048.Idx) := by
    intro r e
    blk_ext [idx t]
  have hrow' : ((cfg0.win 5).blk t).view.emb (ix2 y0 y1) = (ix2 ⟨t.val * 512 + y0.val, by omega⟩ y1 : S16384x2048.Idx) := by
    blk_ext [idx t]
  rw [hrow']
  refine norm_at _ _ _ _ _ _ (fun r => ⟨t.val * 512 + r.val, by omega⟩) (fun r e => ?_) (fun e => ?_) y0 y1
  · exact (point m c t (ix2 r e)).trans (congrArg (goal m c) (hrow r e))
  · blk_ext [iblk, V, idx t]

/-- The first result array. -/
theorem final : (dats m 0 c).arrAt 4 cfg0.N = goal m c := by
  refine (dats m 0 c).arrAt_eq_of_covers 4 _ (by decide +kernel) fun t _ y => ?_
  blk_simp
  rw [after0_4]
  frame_out
  exact point m c t y

/-- The second result array. -/
theorem final_norm : (dats m 0 c).arrAt 5 cfg0.N = norm (goal m c) (m ((c : Thread nD τ).loc main_arg3)) := by
  refine (dats m 0 c).arrAt_eq_of_covers 5 _ (by decide +kernel) fun t _ y => ?_
  blk_simp
  rw [after0_5]
  frame_out
  exact point_norm m c t y

end Cert.KernelMixoutIdeal.Mixed

namespace Cert.Proof

open Idealize.ShloMosaic Idealize.ShloMosaic.TcCoe Idealize.SL.Sem

/-- The kernel and the reference end with the same two results. -/
theorem algebraic_mixout : Cert.algebraic_KernelMixoutIdeal_ReferenceMixoutIdeal
    (hKernelMixoutIdeal := Cert.KernelMixoutIdeal.Gen.facts) (hReferenceMixoutIdeal := Cert.ReferenceMixoutIdeal.Gen.facts) := by
  pair_intro
  · run_from Cert.KernelMixoutIdeal.Value.run_blocks m g
  · refine (θ_run _ _ _).mono (fun r h c => ⟨(h c).1.trans ?_, (h c).2.1.trans ?_, (h c).2.2⟩)
      (Cert.ReferenceMixoutIdeal.Value.run m' g')
    · obtain ⟨e0, e1, e2, e3⟩ := hagree c
      rw [Cert.KernelMixoutIdeal.Mixed.final m c, Cert.KernelMixoutIdeal.Mixed.goal, e0, e1, e2]
      rfl
    · obtain ⟨e0, e1, e2, e3⟩ := hagree c
      rw [Cert.KernelMixoutIdeal.Mixed.final_norm m c, Cert.KernelMixoutIdeal.Mixed.goal, e0, e1, e2, e3]
      rfl

/-- The reference ends, with its arguments as they were and every semaphore at zero. -/
theorem reference_mixout : Cert.quiescent_ReferenceMixoutIdeal (hReferenceMixoutIdeal := Cert.ReferenceMixoutIdeal.Gen.facts) := by
  intro m g _
  exact (θ_run Cert.ReferenceMixoutIdeal.defs _ _).mono (fun r h => ⟨fun c => (h c).2.2, sem_eq_zero_of_no_sems (by decide) r.2⟩)
    (Cert.ReferenceMixoutIdeal.Value.run (F := Ideal) m g)

end Cert.Proof
-- ==== Proof.FfnIn.lean ====
/- The gated hidden layer of the feed-forward part. -/
module

public import proofs.«01_k».proof.Defs
public import proofs.«01_k».proof.Proof.Gen.KernelFfnInIdeal.Value
public import proofs.«01_k».proof.Proof.Gen.ReferenceFfnInIdeal.Run
public import Idealize.ShloMosaic.Lib.Pipeline.ValueKit
public import Idealize.ShloMosaic.Lib.Claim

@[expose] public section

set_option maxRecDepth 16384

noncomputable section

namespace Cert.ReferenceFfnInIdeal.Value

open Idealize.ShloMosaic Idealize.ShloMosaic.TcCoe Idealize.SL.Sem Cert.ReferenceFfnInIdeal Cert.ReferenceFfnInIdeal.Gen

/-- The reference's result. -/
def hidden (x : FVec Ideal S16384x2048 .bf16) (w : FVec Ideal S2048x11264 .bf16) : FVec Ideal S16384x5632 .bf16 :=
  truncf .bf16 (mulf (mulf (extractStridedSlice S16384x5632 ![0, 0] (Host.dotGeneral dot_S16384x2048_S2048x11264_S16384x11264_1_0_0_1_n_n none (extf .f32 x bitsLt_bf16_f32) (extf .f32 w bitsLt_bf16_f32)) slices_S16384x11264_S16384x5632_0_0) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (extractStridedSlice S16384x5632 ![0, 0] (Host.dotGeneral dot_S16384x2048_S2048x11264_S16384x11264_1_0_0_1_n_n none (extf .f32 x bitsLt_bf16_f32) (extf .f32 w bitsLt_bf16_f32)) slices_S16384x11264_S16384x5632_0_0)))))) (extractStridedSlice S16384x5632 ![0, 5632] (Host.dotGeneral dot_S16384x2048_S2048x11264_S16384x11264_1_0_0_1_n_n none (extf .f32 x bitsLt_bf16_f32) (extf .f32 w bitsLt_bf16_f32)) slices_S16384x11264_S16384x5632_0_5632)) bitsLt_bf16_f32

end Cert.ReferenceFfnInIdeal.Value

namespace Cert.KernelFfnInIdeal.Hidden

open Idealize.ShloMosaic Idealize.ShloMosaic.TcCoe Idealize.SL.Sem Cert.KernelFfnInIdeal Cert.KernelFfnInIdeal.Gen

/-- The blocks that each grid point stages. -/
theorem idx : ∀ t : Fin cfg0.N, win0_0.index t = ![t.val / 11, 0] ∧ win0_1.index t = ![0, t.val % 11]
    ∧ win0_2.index t = ![0, 11 + t.val % 11] ∧ win0_3.index t = ![t.val / 11, t.val % 11] :=
  (by decide +kernel : ∀ t : Fin grid0.N, _)

variable (m : (ℓ : Loc nD τ sig) → Buf (Elt Ideal) ℓ) (c : Dev nD)

/-- An element of the block that a point stores. -/
theorem point (t : Fin cfg0.N) (y) : k0_pay1 (iblk m c 0 t) (iblk m c 1 t) (iblk m c 2 t) y
    = Cert.ReferenceFfnInIdeal.Value.hidden (m ((c : Thread nD τ).loc main_arg0)) (m ((c : Thread nD τ).loc main_arg1))
        (((cfg0.win 3).blk t).view.emb y) := by
  pointwise [k0_pay1, Cert.ReferenceFfnInIdeal.Value.hidden]
  simp only [zero_sub]
  blk_point [iblk, V, idx t]

/-- The result array. -/
theorem final : (dats m 0 c).arrAt 3 cfg0.N
    = Cert.ReferenceFfnInIdeal.Value.hidden (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point m c t y

end Cert.KernelFfnInIdeal.Hidden

namespace Cert.Proof

open Idealize.ShloMosaic Idealize.ShloMosaic.TcCoe Idealize.SL.Sem

/-- The kernel and the reference end with the same hidden layer. -/
theorem algebraic_ffn_in : Cert.algebraic_KernelFfnInIdeal_ReferenceFfnInIdeal
    (hKernelFfnInIdeal := Cert.KernelFfnInIdeal.Gen.facts) (hReferenceFfnInIdeal := Cert.ReferenceFfnInIdeal.Gen.facts) := by
  pair_intro
  · run_from Cert.KernelFfnInIdeal.Value.run_blocks m g
  · refine (θ_run _ _ _).mono (fun r h c => ⟨(h c).1.trans ?_, (h c).2⟩) (Cert.ReferenceFfnInIdeal.Value.run m' g')
    obtain ⟨e0, e1⟩ := hagree c
    rw [Cert.KernelFfnInIdeal.Hidden.final m c, e0, e1]
    rfl

/-- The reference ends, with its arguments as they were and every semaphore at zero. -/
theorem reference_ffn_in : Cert.quiescent_ReferenceFfnInIdeal (hReferenceFfnInIdeal := Cert.ReferenceFfnInIdeal.Gen.facts) := by
  intro m g _
  exact (θ_run Cert.ReferenceFfnInIdeal.defs _ _).mono (fun r h => ⟨fun c => (h c).2, sem_eq_zero_of_no_sems (by decide) r.2⟩)
    (Cert.ReferenceFfnInIdeal.Value.run (F := Ideal) m g)

end Cert.Proof
-- ==== Proof.FfnOut.lean ====
/- The output of the feed-forward part, with the residual, under the last norm: the block's result. -/
module

public import proofs.«01_k».proof.Defs
public import proofs.«01_k».proof.Proof.Gen.KernelFfnOutIdeal.Value
public import proofs.«01_k».proof.Proof.Gen.ReferenceFfnOutIdeal.Run
public import Idealize.ShloMosaic.Lib.Pipeline.ValueKit
public import Idealize.ShloMosaic.Lib.Claim

@[expose] public section

set_option maxRecDepth 16384

noncomputable section

namespace Cert.ReferenceFfnOutIdeal.Value

open Idealize.ShloMosaic Idealize.ShloMosaic.TcCoe Idealize.SL.Sem Cert.ReferenceFfnOutIdeal Cert.ReferenceFfnOutIdeal.Gen

/-- The residual plus the product. -/
def resid (a : FVec Ideal S16384x5632 .bf16) (w : FVec Ideal S5632x2048 .bf16) (h : FVec Ideal S16384x2048 .f32) :
    FVec Ideal S16384x2048 .f32 :=
  addf h (Host.dotGeneral dot_S16384x5632_S5632x2048_S16384x2048_1_0_0_1_n_n none
    (extf .f32 a bitsLt_bf16_f32) (extf .f32 w bitsLt_bf16_f32))

/-- The norm of every row. -/
def norm (x : FVec Ideal S16384x2048 .f32) (g : FVec Ideal S1x2048 .f32) : FVec Ideal S16384x2048 .f32 :=
  mulf (mulf x
    (broadcastInDim S16384x2048 ![0, 1] bcast_S16384x1_S16384x2048_0_1 (Host.rsqrt (addf (Host.divf
      (broadcastInDim S16384x1 ![0] bcast_S16384_S16384x1_0 (Host.reduceAdd (mulf x x) (constant S_ .f32 0x00000000#32) reducesTo_S16384x2048_S16384_d1 h_S_))
      (broadcastInDim S16384x1 ![] bcast_S_S16384x1 (constant S_ .f32 0x45000000#32)))
      (broadcastInDim S16384x1 ![] bcast_S_S16384x1 (constant S_ .f32 0x3727C5AC#32))))))
    (broadcastInDim S16384x2048 ![0, 1] bcast_S1x2048_S16384x2048_0_1 g)

end Cert.ReferenceFfnOutIdeal.Value

namespace Cert.KernelFfnOutIdeal.Result

open Idealize.ShloMosaic Idealize.ShloMosaic.TcCoe Idealize.SL.Sem Cert.KernelFfnOutIdeal Cert.KernelFfnOutIdeal.Gen
  Cert.KernelFfnOutIdeal.Value Cert.ReferenceFfnOutIdeal.Value

/-- The blocks that each grid point stages. -/
theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] :=
  (by decide +kernel : ∀ t : Fin grid0.N, _)

/-- One step adds one product to what the block held. -/
theorem step_at (acc : FVec Ideal S512x2048 .f32) (A : FVec Ideal S512x1408 .bf16) (B : FVec Ideal S1408x2048 .bf16)
    (r : Fin 512) (e : Fin 2048) :
    k0_pay1 acc A B (ix2 r e) = acc (ix2 r e) + ∑ p : Fin 1408, A (ix2 r p) * B (ix2 p e) := by
  pointwise [k0_pay1]

/-- The residual plus the product, at an index. -/
theorem resid_at (a : FVec Ideal S16384x5632 .bf16) (w : FVec Ideal S5632x2048 .bf16) (h : FVec Ideal S16384x2048 .f32)
    (q : Fin 16384) (e : Fin 2048) :
    resid a w h (ix2 q e) = h (ix2 q e) + ∑ p : Fin 5632, a (ix2 q p) * w (ix2 p e) := by
  pointwise [resid]

/-- The norm of a block of rows is the norm of those rows. -/
theorem norm_at (S : FVec Ideal S512x2048 .f32) (b : FVec Ideal S1x2048 .f32) (x : FVec Ideal S16384x2048 .f32)
    (g : FVec Ideal S1x2048 .f32) (q : Fin 512 → Fin 16384) (hS : ∀ r e, S (ix2 r e) = x (ix2 (q r) e))
    (hb : ∀ e, b (ix2 0 e) = g (ix2 0 e)) (r : Fin 512) (e : Fin 2048) :
    k0_pay2 S b (ix2 r e) = Cert.ReferenceFfnOutIdeal.Value.norm x g (ix2 (q r) e) := by
  pointwise [k0_pay2, Cert.ReferenceFfnOutIdeal.Value.norm]
  simp only [hS, hb]

variable (m : (ℓ : Loc nD τ sig) → Buf (Elt Ideal) ℓ) (c : Dev nD)

/-- The arguments in memory. -/
abbrev acts : FVec Ideal S16384x5632 .bf16 := m ((c : Thread nD τ).loc main_arg0)
abbrev weights : FVec Ideal S5632x2048 .bf16 := m ((c : Thread nD τ).loc main_arg1)
abbrev before : FVec Ideal S16384x2048 .f32 := m ((c : Thread nD τ).loc main_arg2)

/-- One step of a row block, in the arguments. -/
theorem part (acc : FVec Ideal S512x2048 .f32) (s : Fin cfg0.N) (i : ℕ) (hi : i < 32) (k : ℕ) (hk : k < 4)
    (hs : s.val = 4 * i + k) (r : Fin 512) (e : Fin 2048) :
    k0_pay1 acc (iblk m c 0 s) (iblk m c 1 s) (ix2 r e) = acc (ix2 r e) + ∑ p : Fin 1408,
      acts m c (ix2 ⟨i * 512 + r.val, by omega⟩ ⟨k * 1408 + p.val, by omega⟩)
        * weights m c (ix2 ⟨k * 1408 + p.val, by omega⟩ e) := by
  refine (step_at acc _ _ r e).trans ?_
  congr 1
  refine Finset.sum_congr rfl fun p _ => ?_
  have h1 : s.val / 4 = i := by omega
  have h2 : s.val % 4 = k := by omega
  congr 1 <;> blk_ext [iblk, V, idx s, h1, h2, acts, weights]

/-- What the block of rows holds before its norm. -/
def sums (b : ℕ) (h : b + 3 < cfg0.N) : FVec Ideal S512x2048 .f32 :=
  k0_pay1 (k0_pay1 (k0_pay1 (k0_pay1 (iblk m c 2 ⟨b, by omega⟩)
    (iblk m c 0 ⟨b, by omega⟩) (iblk m c 1 ⟨b, by omega⟩))
    (iblk m c 0 ⟨b + 1, by omega⟩) (iblk m c 1 ⟨b + 1, by omega⟩))
    (iblk m c 0 ⟨b + 2, by omega⟩) (iblk m c 1 ⟨b + 2, by omega⟩))
    (iblk m c 0 ⟨b + 3, h⟩) (iblk m c 1 ⟨b + 3, h⟩)

/-- The four steps of a row block, and the norm after the last. -/
theorem fold (b : ℕ) (hb : b % 4 = 0) : ∀ (j : ℕ) (_ : j = 3) (h : b + j < cfg0.N) (h' : b + 3 < cfg0.N),
    Pipeline.accAt (reset4 m c) (step4 m c) b j h = k0_pay2 (sums m c b h') (iblk m c 3 ⟨b + 3, h'⟩) := by
  rintro j rfl h h'
  rw [Pipeline.accAt_succ, Pipeline.accAt_succ, Pipeline.accAt_succ, Pipeline.accAt_zero]
  unfold step4 reset4 sums
  rw [if_neg (by omega), if_pos (by omega), if_pos (by omega), if_pos (by omega)]

/-- A row block before its norm holds the residual plus the whole product. -/
theorem sums_at (i : ℕ) (hi : i < 32) (h : 4 * i + 3 < cfg0.N) (r : Fin 512) (e : Fin 2048) :
    sums m c (4 * i) h (ix2 r e)
      = resid (acts m c) (weights m c) (before m c)
          (ix2 ⟨i * 512 + r.val, by omega⟩ e) := by
  unfold sums
  rw [part m c _ ⟨4 * i + 3, h⟩ i hi 3 (by omega) rfl, part m c _ ⟨4 * i + 2, by omega⟩ i hi 2 (by omega) rfl,
    part m c _ ⟨4 * i + 1, by omega⟩ i hi 1 (by omega) rfl, part m c _ ⟨4 * i, by omega⟩ i hi 0 (by omega) rfl,
    resid_at, Fin.sum_univ_tiles 4 1408 (N := 5632) (by norm_num), Fin.sum_univ_four, ← add_assoc, ← add_assoc, ← add_assoc]
  have h0 : (iblk m c 2 ⟨4 * i, by omega⟩ : FVec Ideal S512x2048 .f32) (ix2 r e)
      = before m c (ix2 ⟨i * 512 + r.val, by omega⟩ e) := by
    have h1 : 4 * i / 4 = i := by omega
    blk_ext [iblk, V, idx ⟨4 * i, by omega⟩, h1, before]
  rw [h0]
  rfl

/-- The result, of the arguments in memory. -/
abbrev goal : FVec Ideal S16384x2048 .f32 :=
  norm (resid (acts m c) (weights m c) (before m c))
    (m ((c : Thread nD τ).loc main_arg3))

/-- The block that the last point of a row block leaves. -/
theorem left (t : Fin cfg0.N) (ht : t.val % 4 = 3) (r : Fin 512) (e : Fin 2048) :
    outsAt0 m c t.val t.isLt (ix2 r e)
      = goal m c (ix2 ⟨t.val / 4 * 512 + r.val, by have h : t.val < 128 := lt_of_lt_of_eq t.isLt N_0; omega⟩ e) := by
  have hN : t.val < 128 := lt_of_lt_of_eq t.isLt N_0
  have hlast : 4 * (t.val / 4) + 3 < cfg0.N := lt_of_lt_of_eq (by omega : _ < 128) N_0.symm
  rw [outsAt_4_eq, fold m c _ (by omega) _ ht _ hlast]
  refine norm_at _ _ _ _ (fun r => ⟨t.val / 4 * 512 + r.val, by omega⟩) (fun r e => ?_) (fun e => ?_) r e
  · exact sums_at m c _ (by omega) hlast r e
  · blk_ext [iblk, V, idx ⟨4 * (t.val / 4) + 3, hlast⟩]

/-- The result array. -/
theorem final : (dats m 0 c).arrAt 4 cfg0.N = goal m c := by
  refine (dats m 0 c).arrAt_eq_of_covers 4 _ (by decide +kernel) fun t hf y => ?_
  blk_simp
  rw [after0_4]
  idx_vars y
  refine (left m c t ((flush0_4 t).mp hf) _ _).trans ?_
  unfold goal
  blk_ext [idx t]

end Cert.KernelFfnOutIdeal.Result

namespace Cert.Proof

open Idealize.ShloMosaic Idealize.ShloMosaic.TcCoe Idealize.SL.Sem

/-- The kernel and the reference end with the same result. -/
theorem algebraic_ffn_out : Cert.algebraic_KernelFfnOutIdeal_ReferenceFfnOutIdeal
    (hKernelFfnOutIdeal := Cert.KernelFfnOutIdeal.Gen.facts) (hReferenceFfnOutIdeal := Cert.ReferenceFfnOutIdeal.Gen.facts) := by
  pair_intro
  · run_from Cert.KernelFfnOutIdeal.Value.run_blocks m g
  · refine (θ_run _ _ _).mono (fun r h c => ⟨(h c).1.trans ?_, (h c).2⟩) (Cert.ReferenceFfnOutIdeal.Value.run m' g')
    obtain ⟨e0, e1, e2, e3⟩ := hagree c
    rw [Cert.KernelFfnOutIdeal.Result.final m c, Cert.KernelFfnOutIdeal.Result.goal, e0, e1, e2, e3]
    rfl

/-- The reference ends, with its arguments as they were and every semaphore at zero. -/
theorem reference_ffn_out : Cert.quiescent_ReferenceFfnOutIdeal (hReferenceFfnOutIdeal := Cert.ReferenceFfnOutIdeal.Gen.facts) := by
  intro m g _
  exact (θ_run Cert.ReferenceFfnOutIdeal.defs _ _).mono (fun r h => ⟨fun c => (h c).2, sem_eq_zero_of_no_sems (by decide) r.2⟩)
    (Cert.ReferenceFfnOutIdeal.Value.run (F := Ideal) m g)

end Cert.Proof
-- ==== Proof.Rows.lean ====
/- The norm of rows of 2048 elements, and a buffer of 1024 such rows written in four parts. -/
module

public import Idealize.ShloMosaic.Lib.Pipeline.ValueKit
public import Idealize.ShloMosaic.Lib.WritesUnit

@[expose] public section

set_option maxRecDepth 16384

noncomputable section

namespace Cert.Rows

open Idealize.ShloMosaic

/-- One element of a row under its norm, with the gain `g`. -/
def rowNorm (row : Fin 2048 → EReal) (g : EReal) (e : Fin 2048) : EReal :=
  row e * Ideal.rsqrt (Ideal.div (∑ x, row x * row x) (Ideal.ofBits .f32 0x45000000#32) + Ideal.ofBits .f32 0x3727C5AC#32) * g

/-- A block of rows, each under its norm. -/
def normed (x : FVec Ideal ⟨2, ![1024, 2048]⟩ .f32) (g : FVec Ideal ⟨2, ![1, 2048]⟩ .f32) : FVec Ideal ⟨2, ![1024, 2048]⟩ .bf16 :=
  fun y => rowNorm (fun e => x (ix2 (y 0) e)) (g (ix2 0 (y 1))) (y 1)

/-- The 1024 rows of block `i` of an array, each under its norm. -/
def blockNorm (x : FVec Ideal ⟨2, ![16384, 2048]⟩ .f32) (g : FVec Ideal ⟨2, ![1, 2048]⟩ .f32) (i : ℕ) (hi : i < 16) :
    FVec Ideal ⟨2, ![1024, 2048]⟩ .bf16 :=
  fun y => rowNorm (fun e => x (ix2 ⟨i * 1024 + (y 0).val, by have h : (y 0).val < 1024 := (y 0).isLt; omega⟩ e)) (g (ix2 0 (y 1))) (y 1)

/-- A buffer whose parts of 256 rows are stored one after another holds, in each row stored, what its part stored. -/
theorem written {sig : RefSig} {sp : Space} (v : View sig .tc sp ⟨2, ![1024, 2048]⟩ .bf16) (f : v.ty.Contents (Elt Ideal))
    (P : ℕ → List (View.Piece (Elt Ideal) ⟨2, ![1024, 2048]⟩ .bf16)) (off : Fin 4 → Fin 2 → ℕ)
    (inb : ∀ (k : Fin 4) (a : Fin 2), off k a + (![256, 2048] : Fin 2 → ℕ) a ≤ (![1024, 2048] : Fin 2 → ℕ) a)
    (w : Fin 4 → FVec Ideal ⟨2, ![256, 2048]⟩ .bf16) (hoff : ∀ k : Fin 4, off k = ![256 * k.val, 0])
    (hP : ∀ k : Fin 4, P (k.val + 1) = ⟨Rect.unit (s := ⟨2, ![1024, 2048]⟩) (off k) ![256, 2048] (inb k), w k⟩ :: P k.val)
    (r : Fin 1024) (e : Fin 2048) (k : ℕ) (hk : k ≤ 4) (hr : r.val < 256 * k) :
    v.read (Elt Ideal) (v.writes (Elt Ideal) f (P k)) (ix2 r e) = w ⟨r.val / 256, by omega⟩ (ix2 ⟨r.val % 256, by omega⟩ e) := by
  induction k with
  | zero => omega
  | succ k ih =>
    have hk' : k < 4 := by omega
    rw [show P (k + 1) = _ from hP ⟨k, hk'⟩]
    by_cases h : r.val < 256 * k
    · refine (View.read_writes_cons_unit_of_not_mem (s := ⟨2, ![1024, 2048]⟩) _ _ _ _ _ _ (hoff ⟨k, hk'⟩) 0 (Or.inl ?_)).trans (ih (by omega) h)
      simpa [ix2] using h
    · have hq : (⟨r.val / 256, by omega⟩ : Fin 4) = ⟨k, hk'⟩ := Fin.ext (by show r.val / 256 = k; omega)
      rw [hq]
      refine View.read_writes_cons_unit_of_mem (s := ⟨2, ![1024, 2048]⟩) _ _ _ _ _ _ (ix2 ⟨r.val % 256, by omega⟩ e) (hoff ⟨k, hk'⟩) fun x => ?_
      fin_cases x
      · show r.val = 256 * k + r.val % 256
        omega
      · show e.val = 0 + e.val
        omega

end Cert.Rows
-- ==== Proof.Qkv.lean ====
/- The projections of the attention and of the convolution branch: the norm of the rows and the scaled product. -/
module

public import proofs.«01_k».proof.Defs
public import proofs.«01_k».proof.Proof.Rows
public import proofs.«01_k».proof.Proof.Gen.KernelQkvIdeal.Value
public import proofs.«01_k».proof.Proof.Gen.ReferenceQkvIdeal.Run
public import Idealize.ShloMosaic.Lib.Pipeline.ValueKit
public import Idealize.ShloMosaic.Lib.Claim

@[expose] public section

set_option maxRecDepth 16384

noncomputable section

namespace Cert.ReferenceQkvIdeal.Value

open Idealize.ShloMosaic Idealize.ShloMosaic.TcCoe Idealize.SL.Sem Cert.ReferenceQkvIdeal Cert.ReferenceQkvIdeal.Gen

/-- The product of the rows under their norm with the weights. -/
def proj (x : FVec Ideal S16384x2048 .f32) (g : FVec Ideal S1x2048 .f32) (w : FVec Ideal S2048x14336 .bf16) : FVec Ideal S16384x14336 .f32 :=
  Host.dotGeneral dot_S16384x2048_S2048x14336_S16384x14336_1_0_0_1_n_n none
    (mulf (mulf x
      (broadcastInDim S16384x2048 ![0, 1] bcast_S16384x1_S16384x2048_0_1 (Host.rsqrt (addf (Host.divf
        (broadcastInDim S16384x1 ![0] bcast_S16384_S16384x1_0 (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x3727C5AC#32))))))
      (broadcastInDim S16384x2048 ![0, 1] bcast_S1x2048_S16384x2048_0_1 g))
    (extf .f32 w bitsLt_bf16_f32)

/-- The reference's result. -/
def scaled (x : FVec Ideal S16384x2048 .f32) (g : FVec Ideal S1x2048 .f32) (w : FVec Ideal S2048x14336 .bf16) (s : FVec Ideal S1x6144 .f32) :
    FVec Ideal S16384x6144 .bf16 :=
  truncf .bf16 (mulf (extractStridedSlice S16384x6144 ![0, 0] (proj x g w) slices_S16384x14336_S16384x6144_0_0)
    (broadcastInDim S16384x6144 ![0, 1] bcast_S1x6144_S16384x6144_0_1 s)) bitsLt_bf16_f32

end Cert.ReferenceQkvIdeal.Value

namespace Cert.KernelQkvIdeal.Rows

open Idealize.ShloMosaic Idealize.ShloMosaic.TcCoe Idealize.SL.Sem Cert.KernelQkvIdeal Cert.KernelQkvIdeal.Gen Cert.Rows

/-- The loop over the parts of a block makes four trips. -/
theorem trips : k0_t1_loop.trips = 4 := by decide +kernel

/-- The first row of a trip. -/
theorem off1 : ∀ k : Fin k0_t1_loop.trips, k0_off1 k = ![256 * k.val, 0] := by decide +kernel

/-- What a trip stores: the rows it loads under their norm. -/
theorem pay1_at (A : FVec Ideal S256x2048 .f32) (b : FVec Ideal S1x2048 .f32) (r : Fin 256) (e : Fin 2048) :
    k0_pay1 (F := Ideal) A b (ix2 r e) = rowNorm (fun e => A (ix2 r e)) (b (ix2 0 e)) e := by
  pointwise [k0_pay1]
  rfl

section Body

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x1024 .bf16) (harg4 : arg4.IsWhole)
  (arg5 : Memref sig .tc .vmem S1x1024 .f32) (harg5 : arg5.IsWhole) (arg6 : Memref sig .tc .vmem S1024x1024 .bf16) (harg6 : arg6.IsWhole)
  (arg7 : Memref sig .tc .vmem S1024x2048 .bf16) (harg7 : arg7.IsWhole)
  (x0 : FVec Ideal S1024x2048 .f32) (x1 : FVec Ideal S1x2048 .f32) (x2 : FVec Ideal S2048x1024 .bf16) (x3 : FVec Ideal S1x1024 .f32)

/-- The pieces stored by the trips before `k`. -/
abbrev pieces (h : k0_cond1 i = 1#1) (k : ℕ) :=
  pb_k0_t1 (F := Ideal) Variants.none c none i arg2 harg2 arg3 harg3 arg4 harg4 arg5 harg5 arg6 harg6 arg7 harg7 h (harg2.unread x0) (harg3.unread x1) k

/-- What trip `k` stores. -/
abbrev stored (h : k0_cond1 i = 1#1) (k : Fin k0_t1_loop.trips) : FVec Ideal S256x2048 .bf16 :=
  k0_pay1 (View.readAt (Elt Ideal) arg2.view (Rect.unit (s := S1024x2048) (k0_off1 k) S256x2048.size (k0_off1_inb i k h)).toLoadRect (harg2.unread x0))
    (View.readAt (Elt Ideal) arg3.view (Rect.unit (s := S1x2048) ![0, 0] S1x2048.size inb_S1x2048_S1x2048_0_0).toLoadRect (harg3.unread x1))

theorem trip (h : k0_cond1 i = 1#1) (k : Fin k0_t1_loop.trips) :
    pieces c i arg2 harg2 arg3 harg3 arg4 harg4 arg5 harg5 arg6 harg6 arg7 harg7 x0 x1 h (k.val + 1)
      = ⟨Rect.unit (s := S1024x2048) (k0_off1 k) S256x2048.size (k0_off1_inb i k h), stored i arg2 harg2 arg3 harg3 x0 x1 h k⟩
        :: pieces c i arg2 harg2 arg3 harg3 arg4 harg4 arg5 harg5 arg6 harg6 arg7 harg7 x0 x1 h k.val := by
  rw [pieces, pb_k0_t1_succ]
  unfold tripL_k0_t1 trip_k0_t1
  rfl

theorem stored_at (h : k0_cond1 i = 1#1) (k : Fin k0_t1_loop.trips) (r : Fin 1024) (hr : r.val / 256 = k.val) (e : Fin 2048) :
    stored i arg2 harg2 arg3 harg3 x0 x1 h k (ix2 ⟨r.val % 256, by omega⟩ e) = normed x0 x1 (ix2 r e) := by
  rw [stored, pay1_at, View.readAt_eq_ld, View.readAt_eq_ld, harg2.read_unread, harg3.read_unread]
  have hrow : ∀ e : Fin 2048, View.ld (Val := Elt Ideal) (e' := .f32) x0 (Rect.unit (s := S1024x2048) (k0_off1 k) S256x2048.size (k0_off1_inb i k h)) (ix2 ⟨r.val % 256, by omega⟩ e)
      = x0 (ix2 r e) := by
    intro e
    refine congrArg x0 (funext fun x => Fin.ext ((Rect.idx_unit_val _ _ _ _ x).trans ?_))
    refine (congrArg (· + _) (congrFun (off1 k) x)).trans ?_
    fin_cases x <;> simp [ix2] <;> omega
  have hg : View.ld (Val := Elt Ideal) (e' := .f32) x1 (Rect.unit (s := S1x2048) ![0, 0] S1x2048.size inb_S1x2048_S1x2048_0_0) = x1 :=
    View.ld_unit_zero (by decide) _ _
  simp only [hrow]
  exact congrArg (fun b : FVec Ideal S1x2048 .f32 => rowNorm (fun e => x0 (ix2 r e)) (b (ix2 0 e)) e) hg

/-- Read through any view, the four parts make up the whole block under its norm. -/
theorem whole {sp : Space} (v : View sig .tc sp S1024x2048 .bf16) (f : v.ty.Contents (Elt Ideal)) (h : k0_cond1 i = 1#1) :
    v.read (Elt Ideal) (v.writes (Elt Ideal) f (pieces c i arg2 harg2 arg3 harg3 arg4 harg4 arg5 harg5 arg6 harg6 arg7 harg7 x0 x1 h 4))
      = normed x0 x1 := by
  funext y
  idx_vars y
  refine (written v f (pieces c i arg2 harg2 arg3 harg3 arg4 harg4 arg5 harg5 arg6 harg6 arg7 harg7 x0 x1 h)
    (fun k => k0_off1 (k.cast trips.symm)) (fun k => k0_off1_inb i (k.cast trips.symm) h)
    (fun k => stored i arg2 harg2 arg3 harg3 x0 x1 h (k.cast trips.symm)) (fun k => off1 (k.cast trips.symm))
    (fun k => trip c i arg2 harg2 arg3 harg3 arg4 harg4 arg5 harg5 arg6 harg6 arg7 harg7 x0 x1 h (k.cast trips.symm)) _ _ 4 le_rfl (by omega)).trans ?_
  exact stored_at i arg2 harg2 arg3 harg3 x0 x1 h _ _ rfl _

theorem sout_A (hc0 : cond0_0 i) :
    sout0_A_0 (F := Ideal) c i arg2 harg2 arg3 harg3 arg4 harg4 arg5 harg5 arg6 harg6 arg7 harg7 hc0 x0 x1 x2 x3 = normed x0 x1 := by
  unfold sout0_A_0
  exact whole c i arg2 harg2 arg3 harg3 arg4 harg4 arg5 harg5 arg6 harg6 arg7 harg7 x0 x1 VS0_0 _ hc0

theorem out_A (hc0 : cond0_0 i) :
    out0_A_4 (F := Ideal) c i arg2 harg2 arg3 harg3 arg4 harg4 arg5 harg5 arg6 harg6 arg7 harg7 hc0 x0 x1 x2 x3 = k0_pay2 (F := Ideal) (normed x0 x1) x2 x3 := by
  frame_out
  refine congrArg (fun S => k0_pay2 (F := Ideal) S x2 x3) ?_
  refine (View.readAt_eq_ld ..).trans ?_
  refine (congrArg (fun S => View.ld S _) (whole c i arg2 harg2 arg3 harg3 arg4 harg4 arg5 harg5 arg6 harg6 arg7 harg7 x0 x1 arg7.view _ hc0)).trans ?_
  exact View.ld_unit_zero (by decide) _ _

theorem out_B (hc0 : ¬cond0_0 i) (xs : FVec Ideal S1024x2048 .bf16) :
    out0_B_4 (F := Ideal) c i arg2 harg2 arg3 harg3 arg4 harg4 arg5 harg5 arg6 harg6 arg7 harg7 hc0 x0 x1 x2 x3 xs = k0_pay2 (F := Ideal) xs x2 x3 := by
  frame_out

end Body

/-- The blocks that each grid point stages. -/
theorem idx : ∀ t : Fin cfg0.N, win0_0.index t = ![t.val / 6, 0] ∧ win0_1.index t = ![0, 0]
    ∧ win0_2.index t = ![0, t.val % 6] ∧ win0_3.index t = ![0, t.val % 6] ∧ win0_4.index t = ![t.val / 6, t.val % 6] :=
  (by decide +kernel : ∀ t : Fin grid0.N, _)

variable (m : (ℓ : Loc nD τ sig) → Buf (Elt Ideal) ℓ) (c : Dev nD)

/-- The scratch after every point of row block `i`: the rows of the block under their norm. -/
abbrev held (t : Fin cfg0.N) : FVec Ideal S1024x2048 .bf16 :=
  blockNorm (m ((c : Thread nD τ).loc main_arg0)) (m ((c : Thread nD τ).loc main_arg1)) (t.val / 6)
    (by have h : t.val < 96 := t.isLt; omega)

theorem held_congr {s t : Fin cfg0.N} (h : s.val / 6 = t.val / 6) : held m c s = held m c t := by
  unfold held
  congr 1

theorem normed_block (t : Fin cfg0.N) : normed (iblk m c 0 t) (iblk m c 1 t) = held m c t := by
  funext y
  idx_vars y
  unfold normed held blockNorm
  dsimp only
  congr 1
  · funext e
    blk_point [iblk, V, idx t]
  · blk_point [iblk, V, idx t]

theorem scratch (n : ℕ) (hn : n < cfg0.N) : (outsAt0 m c n hn).2 = held m c ⟨n, hn⟩ := by
  induction n with
  | zero => rw [outsAt0_A m c ⟨0, hn⟩ rfl]; exact (sout_A ..).trans (normed_block m c ⟨0, hn⟩)
  | succ n ih =>
    by_cases h : (n + 1) % 6 = 0
    · rw [outsAt0_A m c ⟨n + 1, hn⟩ h]
      exact (sout_A ..).trans (normed_block m c ⟨n + 1, hn⟩)
    · rw [outsAt0_B m c ⟨n + 1, hn⟩ h]
      refine (ih (Nat.lt_of_succ_lt hn)).trans ?_
      exact held_congr m c (show n / 6 = (n + 1) / 6 by omega)

theorem outs (t : Fin cfg0.N) : (outsAt0 m c t.val t.isLt).1 = k0_pay2 (held m c t) (iblk m c 2 t) (iblk m c 3 t) := by
  by_cases h : t.val % 6 = 0
  · rw [outsAt0_A m c t h]
    dsimp only
    rw [out_A, normed_block m c t]
  · rw [outsAt0_B m c t h]
    dsimp only
    rw [out_B, scratch m c, held_congr m c (show (t.val - 1) / 6 = t.val / 6 by omega)]

/-- An element of the block that a point stores. -/
theorem point (t : Fin cfg0.N) (y) : k0_pay2 (held m c t) (iblk m c 2 t) (iblk m c 3 t) y
    = Cert.ReferenceQkvIdeal.Value.scaled (m ((c : Thread nD τ).loc main_arg0)) (m ((c : Thread nD τ).loc main_arg1))
        (m ((c : Thread nD τ).loc main_arg2)) (m ((c : Thread nD τ).loc main_arg3)) (((cfg0.win 4).blk t).view.emb y) := by
  pointwise [k0_pay2, Cert.ReferenceQkvIdeal.Value.scaled, Cert.ReferenceQkvIdeal.Value.proj]
  simp only [held, blockNorm, rowNorm]
  blk_point [iblk, V, idx t]

/-- The result array. -/
theorem final : (dats m 0 c).arrAt 4 cfg0.N
    = Cert.ReferenceQkvIdeal.Value.scaled (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, outs]
  exact point m c t y

end Cert.KernelQkvIdeal.Rows

namespace Cert.Proof

open Idealize.ShloMosaic Idealize.ShloMosaic.TcCoe Idealize.SL.Sem

/-- The kernel and the reference end with the same projections. -/
theorem algebraic_qkv : Cert.algebraic_KernelQkvIdeal_ReferenceQkvIdeal
    (hKernelQkvIdeal := Cert.KernelQkvIdeal.Gen.facts) (hReferenceQkvIdeal := Cert.ReferenceQkvIdeal.Gen.facts) := by
  pair_intro
  · run_from Cert.KernelQkvIdeal.Value.run_blocks m g
  · refine (θ_run _ _ _).mono (fun r h c => ⟨(h c).1.trans ?_, (h c).2⟩) (Cert.ReferenceQkvIdeal.Value.run m' g')
    obtain ⟨e0, e1, e2, e3⟩ := hagree c
    rw [Cert.KernelQkvIdeal.Rows.final m c, e0, e1, e2, e3]
    rfl

/-- The reference ends, with its arguments as they were and every semaphore at zero. -/
theorem reference_qkv : Cert.quiescent_ReferenceQkvIdeal (hReferenceQkvIdeal := Cert.ReferenceQkvIdeal.Gen.facts) := by
  intro m g _
  exact (θ_run Cert.ReferenceQkvIdeal.defs _ _).mono (fun r h => ⟨fun c => (h c).2, sem_eq_zero_of_no_sems (by decide) r.2⟩)
    (Cert.ReferenceQkvIdeal.Value.run (F := Ideal) m g)

end Cert.Proof
-- ==== Proof.Glu.lean ====
/- The gated values of the convolution branch: the norm of the rows, and one product times the sigmoid of another. -/
module

public import proofs.«01_k».proof.Defs
public import proofs.«01_k».proof.Proof.Rows
public import proofs.«01_k».proof.Proof.Gen.KernelGluIdeal.Value
public import proofs.«01_k».proof.Proof.Gen.ReferenceGluIdeal.Run
public import Idealize.ShloMosaic.Lib.Pipeline.ValueKit
public import Idealize.ShloMosaic.Lib.Claim

@[expose] public section

set_option maxRecDepth 16384

noncomputable section

namespace Cert.ReferenceGluIdeal.Value

open Idealize.ShloMosaic Idealize.ShloMosaic.TcCoe Idealize.SL.Sem Cert.ReferenceGluIdeal Cert.ReferenceGluIdeal.Gen

/-- The product of the rows under their norm with the weights. -/
def proj (x : FVec Ideal S16384x2048 .f32) (g : FVec Ideal S1x2048 .f32) (w : FVec Ideal S2048x14336 .bf16) : FVec Ideal S16384x14336 .f32 :=
  Host.dotGeneral dot_S16384x2048_S2048x14336_S16384x14336_1_0_0_1_n_n none
    (mulf (mulf x
      (broadcastInDim S16384x2048 ![0, 1] bcast_S16384x1_S16384x2048_0_1 (Host.rsqrt (addf (Host.divf
        (broadcastInDim S16384x1 ![0] bcast_S16384_S16384x1_0 (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x3727C5AC#32))))))
      (broadcastInDim S16384x2048 ![0, 1] bcast_S1x2048_S16384x2048_0_1 g))
    (extf .f32 w bitsLt_bf16_f32)

/-- The reference's result. -/
def gated (x : FVec Ideal S16384x2048 .f32) (g : FVec Ideal S1x2048 .f32) (w : FVec Ideal S2048x14336 .bf16) : FVec Ideal S16384x2048 .bf16 :=
  truncf .bf16 (mulf (extractStridedSlice S16384x2048 ![0, 6144] (proj x g w) slices_S16384x14336_S16384x2048_0_6144)
    (Host.divf (broadcastInDim S16384x2048 ![] bcast_S_S16384x2048 (constant S_ .f32 0x3F800000#32))
      (addf (broadcastInDim S16384x2048 ![] bcast_S_S16384x2048 (constant S_ .f32 0x3F800000#32))
        (Host.exp (Host.negf (extractStridedSlice S16384x2048 ![0, 8192] (proj x g w) slices_S16384x14336_S16384x2048_0_8192)))))) bitsLt_bf16_f32

end Cert.ReferenceGluIdeal.Value

namespace Cert.KernelGluIdeal.Rows

open Idealize.ShloMosaic Idealize.ShloMosaic.TcCoe Idealize.SL.Sem Cert.KernelGluIdeal Cert.KernelGluIdeal.Gen Cert.Rows

/-- The loop over the parts of a block makes four trips. -/
theorem trips : k0_t1_loop.trips = 4 := by decide +kernel

/-- The first row of a trip. -/
theorem off1 : ∀ k : Fin k0_t1_loop.trips, k0_off1 k = ![256 * k.val, 0] := by decide +kernel

/-- What a trip stores: the rows it loads under their norm. -/
theorem pay1_at (A : FVec Ideal S256x2048 .f32) (b : FVec Ideal S1x2048 .f32) (r : Fin 256) (e : Fin 2048) :
    k0_pay1 (F := Ideal) A b (ix2 r e) = rowNorm (fun e => A (ix2 r e)) (b (ix2 0 e)) e := by
  pointwise [k0_pay1]
  rfl

section Body

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S1024x512 .bf16) (harg6 : arg6.IsWhole)
  (arg7 : Memref sig .tc .vmem S1024x2048 .bf16) (harg7 : arg7.IsWhole)
  (x0 : FVec Ideal S1024x2048 .f32) (x1 : FVec Ideal S1x2048 .f32) (x2 x3 : FVec Ideal S2048x512 .bf16)

/-- The pieces stored by the trips before `k`. -/
abbrev pieces (h : k0_cond1 i = 1#1) (k : ℕ) :=
  pb_k0_t1 (F := Ideal) Variants.none c none i arg2 harg2 arg3 harg3 arg4 harg4 arg5 harg5 arg6 harg6 arg7 harg7 h (harg2.unread x0) (harg3.unread x1) k

/-- What trip `k` stores. -/
abbrev stored (h : k0_cond1 i = 1#1) (k : Fin k0_t1_loop.trips) : FVec Ideal S256x2048 .bf16 :=
  k0_pay1 (View.readAt (Elt Ideal) arg2.view (Rect.unit (s := S1024x2048) (k0_off1 k) S256x2048.size (k0_off1_inb i k h)).toLoadRect (harg2.unread x0))
    (View.readAt (Elt Ideal) arg3.view (Rect.unit (s := S1x2048) ![0, 0] S1x2048.size inb_S1x2048_S1x2048_0_0).toLoadRect (harg3.unread x1))

theorem trip (h : k0_cond1 i = 1#1) (k : Fin k0_t1_loop.trips) :
    pieces c i arg2 harg2 arg3 harg3 arg4 harg4 arg5 harg5 arg6 harg6 arg7 harg7 x0 x1 h (k.val + 1)
      = ⟨Rect.unit (s := S1024x2048) (k0_off1 k) S256x2048.size (k0_off1_inb i k h), stored i arg2 harg2 arg3 harg3 x0 x1 h k⟩
        :: pieces c i arg2 harg2 arg3 harg3 arg4 harg4 arg5 harg5 arg6 harg6 arg7 harg7 x0 x1 h k.val := by
  rw [pieces, pb_k0_t1_succ]
  unfold tripL_k0_t1 trip_k0_t1
  rfl

theorem stored_at (h : k0_cond1 i = 1#1) (k : Fin k0_t1_loop.trips) (r : Fin 1024) (hr : r.val / 256 = k.val) (e : Fin 2048) :
    stored i arg2 harg2 arg3 harg3 x0 x1 h k (ix2 ⟨r.val % 256, by omega⟩ e) = normed x0 x1 (ix2 r e) := by
  rw [stored, pay1_at, View.readAt_eq_ld, View.readAt_eq_ld, harg2.read_unread, harg3.read_unread]
  have hrow : ∀ e : Fin 2048, View.ld (Val := Elt Ideal) (e' := .f32) x0 (Rect.unit (s := S1024x2048) (k0_off1 k) S256x2048.size (k0_off1_inb i k h)) (ix2 ⟨r.val % 256, by omega⟩ e)
      = x0 (ix2 r e) := by
    intro e
    refine congrArg x0 (funext fun x => Fin.ext ((Rect.idx_unit_val _ _ _ _ x).trans ?_))
    refine (congrArg (· + _) (congrFun (off1 k) x)).trans ?_
    fin_cases x <;> simp [ix2] <;> omega
  have hg : View.ld (Val := Elt Ideal) (e' := .f32) x1 (Rect.unit (s := S1x2048) ![0, 0] S1x2048.size inb_S1x2048_S1x2048_0_0) = x1 :=
    View.ld_unit_zero (by decide) _ _
  simp only [hrow]
  exact congrArg (fun b : FVec Ideal S1x2048 .f32 => rowNorm (fun e => x0 (ix2 r e)) (b (ix2 0 e)) e) hg

/-- Read through any view, the four parts make up the whole block under its norm. -/
theorem whole {sp : Space} (v : View sig .tc sp S1024x2048 .bf16) (f : v.ty.Contents (Elt Ideal)) (h : k0_cond1 i = 1#1) :
    v.read (Elt Ideal) (v.writes (Elt Ideal) f (pieces c i arg2 harg2 arg3 harg3 arg4 harg4 arg5 harg5 arg6 harg6 arg7 harg7 x0 x1 h 4))
      = normed x0 x1 := by
  funext y
  idx_vars y
  refine (written v f (pieces c i arg2 harg2 arg3 harg3 arg4 harg4 arg5 harg5 arg6 harg6 arg7 harg7 x0 x1 h)
    (fun k => k0_off1 (k.cast trips.symm)) (fun k => k0_off1_inb i (k.cast trips.symm) h)
    (fun k => stored i arg2 harg2 arg3 harg3 x0 x1 h (k.cast trips.symm)) (fun k => off1 (k.cast trips.symm))
    (fun k => trip c i arg2 harg2 arg3 harg3 arg4 harg4 arg5 harg5 arg6 harg6 arg7 harg7 x0 x1 h (k.cast trips.symm)) _ _ 4 le_rfl (by omega)).trans ?_
  exact stored_at i arg2 harg2 arg3 harg3 x0 x1 h _ _ rfl _

theorem sout_A (hc0 : cond0_0 i) :
    sout0_A_0 (F := Ideal) c i arg2 harg2 arg3 harg3 arg4 harg4 arg5 harg5 arg6 harg6 arg7 harg7 hc0 x0 x1 x2 x3 = normed x0 x1 := by
  unfold sout0_A_0
  exact whole c i arg2 harg2 arg3 harg3 arg4 harg4 arg5 harg5 arg6 harg6 arg7 harg7 x0 x1 VS0_0 _ hc0

theorem out_A (hc0 : cond0_0 i) :
    out0_A_4 (F := Ideal) c i arg2 harg2 arg3 harg3 arg4 harg4 arg5 harg5 arg6 harg6 arg7 harg7 hc0 x0 x1 x2 x3 = k0_pay2 (F := Ideal) (normed x0 x1) x2 x3 := by
  frame_out
  refine congrArg (fun S => k0_pay2 (F := Ideal) S x2 x3) ?_
  refine (View.readAt_eq_ld ..).trans ?_
  refine (congrArg (fun S => View.ld S _) (whole c i arg2 harg2 arg3 harg3 arg4 harg4 arg5 harg5 arg6 harg6 arg7 harg7 x0 x1 arg7.view _ hc0)).trans ?_
  exact View.ld_unit_zero (by decide) _ _

theorem out_B (hc0 : ¬cond0_0 i) (xs : FVec Ideal S1024x2048 .bf16) :
    out0_B_4 (F := Ideal) c i arg2 harg2 arg3 harg3 arg4 harg4 arg5 harg5 arg6 harg6 arg7 harg7 hc0 x0 x1 x2 x3 xs = k0_pay2 (F := Ideal) xs x2 x3 := by
  frame_out

end Body

/-- The blocks that each grid point stages. -/
theorem idx : ∀ t : Fin cfg0.N, win0_0.index t = ![t.val / 4, 0] ∧ win0_1.index t = ![0, 0]
    ∧ win0_2.index t = ![0, 12 + t.val % 4] ∧ win0_3.index t = ![0, 16 + t.val % 4] ∧ win0_4.index t = ![t.val / 4, t.val % 4] :=
  (by decide +kernel : ∀ t : Fin grid0.N, _)

variable (m : (ℓ : Loc nD τ sig) → Buf (Elt Ideal) ℓ) (c : Dev nD)

/-- The scratch after every point of row block `i`: the rows of the block under their norm. -/
abbrev held (t : Fin cfg0.N) : FVec Ideal S1024x2048 .bf16 :=
  blockNorm (m ((c : Thread nD τ).loc main_arg0)) (m ((c : Thread nD τ).loc main_arg1)) (t.val / 4)
    (by have h : t.val < 64 := t.isLt; omega)

theorem held_congr {s t : Fin cfg0.N} (h : s.val / 4 = t.val / 4) : held m c s = held m c t := by
  unfold held
  congr 1

theorem normed_block (t : Fin cfg0.N) : normed (iblk m c 0 t) (iblk m c 1 t) = held m c t := by
  funext y
  idx_vars y
  unfold normed held blockNorm
  dsimp only
  congr 1
  · funext e
    blk_point [iblk, V, idx t]
  · blk_point [iblk, V, idx t]

theorem scratch (n : ℕ) (hn : n < cfg0.N) : (outsAt0 m c n hn).2 = held m c ⟨n, hn⟩ := by
  induction n with
  | zero => rw [outsAt0_A m c ⟨0, hn⟩ rfl]; exact (sout_A ..).trans (normed_block m c ⟨0, hn⟩)
  | succ n ih =>
    by_cases h : (n + 1) % 4 = 0
    · rw [outsAt0_A m c ⟨n + 1, hn⟩ h]
      exact (sout_A ..).trans (normed_block m c ⟨n + 1, hn⟩)
    · rw [outsAt0_B m c ⟨n + 1, hn⟩ h]
      refine (ih (Nat.lt_of_succ_lt hn)).trans ?_
      exact held_congr m c (show n / 4 = (n + 1) / 4 by omega)

theorem outs (t : Fin cfg0.N) : (outsAt0 m c t.val t.isLt).1 = k0_pay2 (held m c t) (iblk m c 2 t) (iblk m c 3 t) := by
  by_cases h : t.val % 4 = 0
  · rw [outsAt0_A m c t h]
    dsimp only
    rw [out_A, normed_block m c t]
  · rw [outsAt0_B m c t h]
    dsimp only
    rw [out_B, scratch m c, held_congr m c (show (t.val - 1) / 4 = t.val / 4 by omega)]

/-- An element of the block that a point stores. -/
theorem point (t : Fin cfg0.N) (y) : k0_pay2 (held m c t) (iblk m c 2 t) (iblk m c 3 t) y
    = Cert.ReferenceGluIdeal.Value.gated (m ((c : Thread nD τ).loc main_arg0)) (m ((c : Thread nD τ).loc main_arg1))
        (m ((c : Thread nD τ).loc main_arg2)) (((cfg0.win 4).blk t).view.emb y) := by
  pointwise [k0_pay2, Cert.ReferenceGluIdeal.Value.gated, Cert.ReferenceGluIdeal.Value.proj]
  simp only [held, blockNorm, rowNorm, zero_sub]
  blk_point [iblk, V, idx t]

/-- The result array. -/
theorem final : (dats m 0 c).arrAt 4 cfg0.N
    = Cert.ReferenceGluIdeal.Value.gated (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, outs]
  exact point m c t y

end Cert.KernelGluIdeal.Rows

namespace Cert.Proof

open Idealize.ShloMosaic Idealize.ShloMosaic.TcCoe Idealize.SL.Sem

/-- The kernel and the reference end with the same gated values. -/
theorem algebraic_glu : Cert.algebraic_KernelGluIdeal_ReferenceGluIdeal
    (hKernelGluIdeal := Cert.KernelGluIdeal.Gen.facts) (hReferenceGluIdeal := Cert.ReferenceGluIdeal.Gen.facts) := by
  pair_intro
  · run_from Cert.KernelGluIdeal.Value.run_blocks m g
  · refine (θ_run _ _ _).mono (fun r h c => ⟨(h c).1.trans ?_, (h c).2⟩) (Cert.ReferenceGluIdeal.Value.run m' g')
    obtain ⟨e0, e1, e2⟩ := hagree c
    rw [Cert.KernelGluIdeal.Rows.final m c, e0, e1, e2]
    rfl

/-- The reference ends, with its arguments as they were and every semaphore at zero. -/
theorem reference_glu : Cert.quiescent_ReferenceGluIdeal (hReferenceGluIdeal := Cert.ReferenceGluIdeal.Gen.facts) := by
  intro m g _
  exact (θ_run Cert.ReferenceGluIdeal.defs _ _).mono (fun r h => ⟨fun c => (h c).2, sem_eq_zero_of_no_sems (by decide) r.2⟩)
    (Cert.ReferenceGluIdeal.Value.run (F := Ideal) m g)

end Cert.Proof
-- ==== Proof.Gates.lean ====
/- The gates of the two mixers: the norm of the rows, and the sigmoid of the product. -/
module

public import proofs.«01_k».proof.Defs
public import proofs.«01_k».proof.Proof.Rows
public import proofs.«01_k».proof.Proof.Gen.KernelGatesIdeal.Value
public import proofs.«01_k».proof.Proof.Gen.ReferenceGatesIdeal.Run
public import Idealize.ShloMosaic.Lib.Pipeline.ValueKit
public import Idealize.ShloMosaic.Lib.Claim

@[expose] public section

set_option maxRecDepth 16384

noncomputable section

namespace Cert.ReferenceGatesIdeal.Value

open Idealize.ShloMosaic Idealize.ShloMosaic.TcCoe Idealize.SL.Sem Cert.ReferenceGatesIdeal Cert.ReferenceGatesIdeal.Gen

/-- The product of the rows under their norm with the weights. -/
def proj (x : FVec Ideal S16384x2048 .f32) (g : FVec Ideal S1x2048 .f32) (w : FVec Ideal S2048x14336 .bf16) : FVec Ideal S16384x14336 .f32 :=
  Host.dotGeneral dot_S16384x2048_S2048x14336_S16384x14336_1_0_0_1_n_n none
    (mulf (mulf x
      (broadcastInDim S16384x2048 ![0, 1] bcast_S16384x1_S16384x2048_0_1 (Host.rsqrt (addf (Host.divf
        (broadcastInDim S16384x1 ![0] bcast_S16384_S16384x1_0 (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x3727C5AC#32))))))
      (broadcastInDim S16384x2048 ![0, 1] bcast_S1x2048_S16384x2048_0_1 g))
    (extf .f32 w bitsLt_bf16_f32)

/-- The reference's result. -/
def gates (x : FVec Ideal S16384x2048 .f32) (g : FVec Ideal S1x2048 .f32) (w : FVec Ideal S2048x14336 .bf16) : FVec Ideal S16384x4096 .bf16 :=
  truncf .bf16 (Host.divf (broadcastInDim S16384x4096 ![] bcast_S_S16384x4096 (constant S_ .f32 0x3F800000#32))
    (addf (broadcastInDim S16384x4096 ![] bcast_S_S16384x4096 (constant S_ .f32 0x3F800000#32))
      (Host.exp (Host.negf (extractStridedSlice S16384x4096 ![0, 10240] (proj x g w) slices_S16384x14336_S16384x4096_0_10240))))) bitsLt_bf16_f32

end Cert.ReferenceGatesIdeal.Value

namespace Cert.KernelGatesIdeal.Rows

open Idealize.ShloMosaic Idealize.ShloMosaic.TcCoe Idealize.SL.Sem Cert.KernelGatesIdeal Cert.KernelGatesIdeal.Gen Cert.Rows

/-- The loop over the parts of a block makes four trips. -/
theorem trips : k0_t1_loop.trips = 4 := by decide +kernel

/-- The first row of a trip. -/
theorem off1 : ∀ k : Fin k0_t1_loop.trips, k0_off1 k = ![256 * k.val, 0] := by decide +kernel

/-- What a trip stores: the rows it loads under their norm. -/
theorem pay1_at (A : FVec Ideal S256x2048 .f32) (b : FVec Ideal S1x2048 .f32) (r : Fin 256) (e : Fin 2048) :
    k0_pay1 (F := Ideal) A b (ix2 r e) = rowNorm (fun e => A (ix2 r e)) (b (ix2 0 e)) e := by
  pointwise [k0_pay1]
  rfl

section Body

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x2048 .bf16) (harg6 : arg6.IsWhole)
  (x0 : FVec Ideal S1024x2048 .f32) (x1 : FVec Ideal S1x2048 .f32) (x2 : FVec Ideal S2048x1024 .bf16)

/-- The pieces stored by the trips before `k`. -/
abbrev pieces (h : k0_cond1 i = 1#1) (k : ℕ) :=
  pb_k0_t1 (F := Ideal) Variants.none c none i arg2 harg2 arg3 harg3 arg4 harg4 arg5 harg5 arg6 harg6 h (harg2.unread x0) (harg3.unread x1) k

/-- What trip `k` stores. -/
abbrev stored (h : k0_cond1 i = 1#1) (k : Fin k0_t1_loop.trips) : FVec Ideal S256x2048 .bf16 :=
  k0_pay1 (View.readAt (Elt Ideal) arg2.view (Rect.unit (s := S1024x2048) (k0_off1 k) S256x2048.size (k0_off1_inb i k h)).toLoadRect (harg2.unread x0))
    (View.readAt (Elt Ideal) arg3.view (Rect.unit (s := S1x2048) ![0, 0] S1x2048.size inb_S1x2048_S1x2048_0_0).toLoadRect (harg3.unread x1))

theorem trip (h : k0_cond1 i = 1#1) (k : Fin k0_t1_loop.trips) :
    pieces c i arg2 harg2 arg3 harg3 arg4 harg4 arg5 harg5 arg6 harg6 x0 x1 h (k.val + 1)
      = ⟨Rect.unit (s := S1024x2048) (k0_off1 k) S256x2048.size (k0_off1_inb i k h), stored i arg2 harg2 arg3 harg3 x0 x1 h k⟩
        :: pieces c i arg2 harg2 arg3 harg3 arg4 harg4 arg5 harg5 arg6 harg6 x0 x1 h k.val := by
  rw [pieces, pb_k0_t1_succ]
  unfold tripL_k0_t1 trip_k0_t1
  rfl

theorem stored_at (h : k0_cond1 i = 1#1) (k : Fin k0_t1_loop.trips) (r : Fin 1024) (hr : r.val / 256 = k.val) (e : Fin 2048) :
    stored i arg2 harg2 arg3 harg3 x0 x1 h k (ix2 ⟨r.val % 256, by omega⟩ e) = normed x0 x1 (ix2 r e) := by
  rw [stored, pay1_at, View.readAt_eq_ld, View.readAt_eq_ld, harg2.read_unread, harg3.read_unread]
  have hrow : ∀ e : Fin 2048, View.ld (Val := Elt Ideal) (e' := .f32) x0 (Rect.unit (s := S1024x2048) (k0_off1 k) S256x2048.size (k0_off1_inb i k h)) (ix2 ⟨r.val % 256, by omega⟩ e)
      = x0 (ix2 r e) := by
    intro e
    refine congrArg x0 (funext fun x => Fin.ext ((Rect.idx_unit_val _ _ _ _ x).trans ?_))
    refine (congrArg (· + _) (congrFun (off1 k) x)).trans ?_
    fin_cases x <;> simp [ix2] <;> omega
  have hg : View.ld (Val := Elt Ideal) (e' := .f32) x1 (Rect.unit (s := S1x2048) ![0, 0] S1x2048.size inb_S1x2048_S1x2048_0_0) = x1 :=
    View.ld_unit_zero (by decide) _ _
  simp only [hrow]
  exact congrArg (fun b : FVec Ideal S1x2048 .f32 => rowNorm (fun e => x0 (ix2 r e)) (b (ix2 0 e)) e) hg

/-- Read through any view, the four parts make up the whole block under its norm. -/
theorem whole {sp : Space} (v : View sig .tc sp S1024x2048 .bf16) (f : v.ty.Contents (Elt Ideal)) (h : k0_cond1 i = 1#1) :
    v.read (Elt Ideal) (v.writes (Elt Ideal) f (pieces c i arg2 harg2 arg3 harg3 arg4 harg4 arg5 harg5 arg6 harg6 x0 x1 h 4))
      = normed x0 x1 := by
  funext y
  idx_vars y
  refine (written v f (pieces c i arg2 harg2 arg3 harg3 arg4 harg4 arg5 harg5 arg6 harg6 x0 x1 h)
    (fun k => k0_off1 (k.cast trips.symm)) (fun k => k0_off1_inb i (k.cast trips.symm) h)
    (fun k => stored i arg2 harg2 arg3 harg3 x0 x1 h (k.cast trips.symm)) (fun k => off1 (k.cast trips.symm))
    (fun k => trip c i arg2 harg2 arg3 harg3 arg4 harg4 arg5 harg5 arg6 harg6 x0 x1 h (k.cast trips.symm)) _ _ 4 le_rfl (by omega)).trans ?_
  exact stored_at i arg2 harg2 arg3 harg3 x0 x1 h _ _ rfl _

theorem sout_A (hc0 : cond0_0 i) :
    sout0_A_0 (F := Ideal) c i arg2 harg2 arg3 harg3 arg4 harg4 arg5 harg5 arg6 harg6 hc0 x0 x1 x2 = normed x0 x1 := by
  unfold sout0_A_0
  exact whole c i arg2 harg2 arg3 harg3 arg4 harg4 arg5 harg5 arg6 harg6 x0 x1 VS0_0 _ hc0

theorem out_A (hc0 : cond0_0 i) :
    out0_A_3 (F := Ideal) c i arg2 harg2 arg3 harg3 arg4 harg4 arg5 harg5 arg6 harg6 hc0 x0 x1 x2 = k0_pay2 (F := Ideal) (normed x0 x1) x2 := by
  frame_out
  refine congrArg (fun S => k0_pay2 (F := Ideal) S x2) ?_
  refine (View.readAt_eq_ld ..).trans ?_
  refine (congrArg (fun S => View.ld S _) (whole c i arg2 harg2 arg3 harg3 arg4 harg4 arg5 harg5 arg6 harg6 x0 x1 arg6.view _ hc0)).trans ?_
  exact View.ld_unit_zero (by decide) _ _

theorem out_B (hc0 : ¬cond0_0 i) (xs : FVec Ideal S1024x2048 .bf16) :
    out0_B_3 (F := Ideal) c i arg2 harg2 arg3 harg3 arg4 harg4 arg5 harg5 arg6 harg6 hc0 x0 x1 x2 xs = k0_pay2 (F := Ideal) xs x2 := by
  frame_out

end Body

/-- The blocks that each grid point stages. -/
theorem idx : ∀ t : Fin cfg0.N, win0_0.index t = ![t.val / 4, 0] ∧ win0_1.index t = ![0, 0]
    ∧ win0_2.index t = ![0, 10 + t.val % 4] ∧ win0_3.index t = ![t.val / 4, t.val % 4] :=
  (by decide +kernel : ∀ t : Fin grid0.N, _)

variable (m : (ℓ : Loc nD τ sig) → Buf (Elt Ideal) ℓ) (c : Dev nD)

/-- The scratch after every point of row block `i`: the rows of the block under their norm. -/
abbrev held (t : Fin cfg0.N) : FVec Ideal S1024x2048 .bf16 :=
  blockNorm (m ((c : Thread nD τ).loc main_arg0)) (m ((c : Thread nD τ).loc main_arg1)) (t.val / 4)
    (by have h : t.val < 64 := t.isLt; omega)

theorem held_congr {s t : Fin cfg0.N} (h : s.val / 4 = t.val / 4) : held m c s = held m c t := by
  unfold held
  congr 1

theorem normed_block (t : Fin cfg0.N) : normed (iblk m c 0 t) (iblk m c 1 t) = held m c t := by
  funext y
  idx_vars y
  unfold normed held blockNorm
  dsimp only
  congr 1
  · funext e
    blk_point [iblk, V, idx t]
  · blk_point [iblk, V, idx t]

theorem scratch (n : ℕ) (hn : n < cfg0.N) : (outsAt0 m c n hn).2 = held m c ⟨n, hn⟩ := by
  induction n with
  | zero => rw [outsAt0_A m c ⟨0, hn⟩ rfl]; exact (sout_A ..).trans (normed_block m c ⟨0, hn⟩)
  | succ n ih =>
    by_cases h : (n + 1) % 4 = 0
    · rw [outsAt0_A m c ⟨n + 1, hn⟩ h]
      exact (sout_A ..).trans (normed_block m c ⟨n + 1, hn⟩)
    · rw [outsAt0_B m c ⟨n + 1, hn⟩ h]
      refine (ih (Nat.lt_of_succ_lt hn)).trans ?_
      exact held_congr m c (show n / 4 = (n + 1) / 4 by omega)

theorem outs (t : Fin cfg0.N) : (outsAt0 m c t.val t.isLt).1 = k0_pay2 (held m c t) (iblk m c 2 t) := by
  by_cases h : t.val % 4 = 0
  · rw [outsAt0_A m c t h]
    dsimp only
    rw [out_A, normed_block m c t]
  · rw [outsAt0_B m c t h]
    dsimp only
    rw [out_B, scratch m c, held_congr m c (show (t.val - 1) / 4 = t.val / 4 by omega)]

/-- An element of the block that a point stores. -/
theorem point (t : Fin cfg0.N) (y) : k0_pay2 (held m c t) (iblk m c 2 t) y
    = Cert.ReferenceGatesIdeal.Value.gates (m ((c : Thread nD τ).loc main_arg0)) (m ((c : Thread nD τ).loc main_arg1))
        (m ((c : Thread nD τ).loc main_arg2)) (((cfg0.win 3).blk t).view.emb y) := by
  pointwise [k0_pay2, Cert.ReferenceGatesIdeal.Value.gates, Cert.ReferenceGatesIdeal.Value.proj]
  simp only [held, blockNorm, rowNorm, zero_sub]
  blk_point [iblk, V, idx t]

/-- The result array. -/
theorem final : (dats m 0 c).arrAt 3 cfg0.N
    = Cert.ReferenceGatesIdeal.Value.gates (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, outs]
  exact point m c t y

end Cert.KernelGatesIdeal.Rows

namespace Cert.Proof

open Idealize.ShloMosaic Idealize.ShloMosaic.TcCoe Idealize.SL.Sem

/-- The kernel and the reference end with the same gates. -/
theorem algebraic_gates : Cert.algebraic_KernelGatesIdeal_ReferenceGatesIdeal
    (hKernelGatesIdeal := Cert.KernelGatesIdeal.Gen.facts) (hReferenceGatesIdeal := Cert.ReferenceGatesIdeal.Gen.facts) := by
  pair_intro
  · run_from Cert.KernelGatesIdeal.Value.run_blocks m g
  · refine (θ_run _ _ _).mono (fun r h c => ⟨(h c).1.trans ?_, (h c).2⟩) (Cert.ReferenceGatesIdeal.Value.run m' g')
    obtain ⟨e0, e1, e2⟩ := hagree c
    rw [Cert.KernelGatesIdeal.Rows.final m c, e0, e1, e2]
    rfl

/-- The reference ends, with its arguments as they were and every semaphore at zero. -/
theorem reference_gates : Cert.quiescent_ReferenceGatesIdeal (hReferenceGatesIdeal := Cert.ReferenceGatesIdeal.Gen.facts) := by
  intro m g _
  exact (θ_run Cert.ReferenceGatesIdeal.defs _ _).mono (fun r h => ⟨fun c => (h c).2, sem_eq_zero_of_no_sems (by decide) r.2⟩)
    (Cert.ReferenceGatesIdeal.Value.run (F := Ideal) m g)

end Cert.Proof
-- ==== Proof.lean ====
/- The proof of the claim: of every call the frames of the three programs, what leads to the idealized kernel,
   and the equality of the two results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelMixout
public import proofs.«01_k».proof.Proof.Gen.KernelMixout.Skeleton
public import proofs.«01_k».proof.Proof.Gen.KernelMixout.Launch
public import proofs.«01_k».proof.Proof.Gen.KernelMixout.Points
public import proofs.«01_k».proof.Proof.Gen.KernelMixout.Frame
public import proofs.«01_k».proof.Proof.Gen.KernelMixoutIdeal
public import proofs.«01_k».proof.Proof.Gen.KernelMixoutIdeal.Skeleton
public import proofs.«01_k».proof.Proof.Gen.KernelMixoutIdeal.Launch
public import proofs.«01_k».proof.Proof.Gen.KernelMixoutIdeal.Points
public import proofs.«01_k».proof.Proof.Gen.KernelMixoutIdeal.Frame
public import proofs.«01_k».proof.Proof.Gen.KernelMixoutIdeal.Value
public import proofs.«01_k».proof.Proof.Gen.ReferenceMixoutIdeal
public import proofs.«01_k».proof.Proof.Gen.ReferenceMixoutIdeal.Run
public import proofs.«01_k».proof.Proof.Gen.KernelFfnIn
public import proofs.«01_k».proof.Proof.Gen.KernelFfnIn.Skeleton
public import proofs.«01_k».proof.Proof.Gen.KernelFfnIn.Launch
public import proofs.«01_k».proof.Proof.Gen.KernelFfnIn.Points
public import proofs.«01_k».proof.Proof.Gen.KernelFfnIn.Frame
public import proofs.«01_k».proof.Proof.Gen.KernelFfnInIdeal
public import proofs.«01_k».proof.Proof.Gen.KernelFfnInIdeal.Skeleton
public import proofs.«01_k».proof.Proof.Gen.KernelFfnInIdeal.Launch
public import proofs.«01_k».proof.Proof.Gen.KernelFfnInIdeal.Points
public import proofs.«01_k».proof.Proof.Gen.KernelFfnInIdeal.Frame
public import proofs.«01_k».proof.Proof.Gen.KernelFfnInIdeal.Value
public import proofs.«01_k».proof.Proof.Gen.ReferenceFfnInIdeal
public import proofs.«01_k».proof.Proof.Gen.ReferenceFfnInIdeal.Run
public import proofs.«01_k».proof.Proof.Gen.KernelFfnOut
public import proofs.«01_k».proof.Proof.Gen.KernelFfnOut.Skeleton
public import proofs.«01_k».proof.Proof.Gen.KernelFfnOut.Launch
public import proofs.«01_k».proof.Proof.Gen.KernelFfnOut.Points
public import proofs.«01_k».proof.Proof.Gen.KernelFfnOut.Frame
public import proofs.«01_k».proof.Proof.Gen.KernelFfnOutIdeal
public import proofs.«01_k».proof.Proof.Gen.KernelFfnOutIdeal.Skeleton
public import proofs.«01_k».proof.Proof.Gen.KernelFfnOutIdeal.Launch
public import proofs.«01_k».proof.Proof.Gen.KernelFfnOutIdeal.Points
public import proofs.«01_k».proof.Proof.Gen.KernelFfnOutIdeal.Frame
public import proofs.«01_k».proof.Proof.Gen.KernelFfnOutIdeal.Value
public import proofs.«01_k».proof.Proof.Gen.ReferenceFfnOutIdeal
public import proofs.«01_k».proof.Proof.Gen.ReferenceFfnOutIdeal.Run
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.KernelGlu
public import proofs.«01_k».proof.Proof.Gen.KernelGlu.Skeleton
public import proofs.«01_k».proof.Proof.Gen.KernelGlu.Launch
public import proofs.«01_k».proof.Proof.Gen.KernelGlu.Points
public import proofs.«01_k».proof.Proof.Gen.KernelGlu.Frame
public import proofs.«01_k».proof.Proof.Gen.KernelGluIdeal
public import proofs.«01_k».proof.Proof.Gen.KernelGluIdeal.Skeleton
public import proofs.«01_k».proof.Proof.Gen.KernelGluIdeal.Launch
public import proofs.«01_k».proof.Proof.Gen.KernelGluIdeal.Points
public import proofs.«01_k».proof.Proof.Gen.KernelGluIdeal.Frame
public import proofs.«01_k».proof.Proof.Gen.KernelGluIdeal.Value
public import proofs.«01_k».proof.Proof.Gen.ReferenceGluIdeal
public import proofs.«01_k».proof.Proof.Gen.ReferenceGluIdeal.Run
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Algebraic
public import proofs.«01_k».proof.Proof.Merge
public import proofs.«01_k».proof.Proof.Mixout
public import proofs.«01_k».proof.Proof.FfnIn
public import proofs.«01_k».proof.Proof.FfnOut
public import proofs.«01_k».proof.Proof.Qkv
public import proofs.«01_k».proof.Proof.Glu
public import proofs.«01_k».proof.Proof.Gates

@[expose] public section

set_option maxRecDepth 16384

noncomputable section

namespace Cert.Proof

open Idealize.ShloMosaic Idealize.ShloMosaic.TcCoe Idealize.SL.Sem

/-- The reference ends, with its arguments as they were and every semaphore at zero. -/
theorem reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- Everything that is claimed. -/
theorem claim : Cert.Claim :=
  ⟨Cert.Kernel.Gen.facts, Cert.KernelIdeal.Gen.facts, Cert.ReferenceIdeal.Gen.facts,
    Cert.KernelMerge.Gen.facts, Cert.KernelMergeIdeal.Gen.facts, Cert.ReferenceMergeIdeal.Gen.facts,
    Cert.KernelMixout.Gen.facts, Cert.KernelMixoutIdeal.Gen.facts, Cert.ReferenceMixoutIdeal.Gen.facts,
    Cert.KernelFfnIn.Gen.facts, Cert.KernelFfnInIdeal.Gen.facts, Cert.ReferenceFfnInIdeal.Gen.facts,
    Cert.KernelFfnOut.Gen.facts, Cert.KernelFfnOutIdeal.Gen.facts, Cert.ReferenceFfnOutIdeal.Gen.facts,
    Cert.KernelQkv.Gen.facts, Cert.KernelQkvIdeal.Gen.facts, Cert.ReferenceQkvIdeal.Gen.facts,
    Cert.KernelGlu.Gen.facts, Cert.KernelGluIdeal.Gen.facts, Cert.ReferenceGluIdeal.Gen.facts,
    Cert.KernelGates.Gen.facts, Cert.KernelGatesIdeal.Gen.facts, Cert.ReferenceGatesIdeal.Gen.facts,
    Cert.Pre_finite.Gen.facts,
    fun m g _ => Cert.Kernel.Gen.frame m g, fun m g _ => Cert.KernelIdeal.Gen.frame m g, fun m g _ => Cert.KernelIdeal.Gen.frame m g,
    reference, fun m g _ => reference m g trivial,
    fun m g _ => Cert.KernelMerge.Gen.frame m g, fun m g _ => Cert.KernelMergeIdeal.Gen.frame m g, reference_merge,
    fun m g _ => Cert.KernelMixout.Gen.frame m g, fun m g _ => Cert.KernelMixoutIdeal.Gen.frame m g, reference_mixout,
    fun m g _ => Cert.KernelFfnIn.Gen.frame m g, fun m g _ => Cert.KernelFfnInIdeal.Gen.frame m g, reference_ffn_in,
    fun m g _ => Cert.KernelFfnOut.Gen.frame m g, fun m g _ => Cert.KernelFfnOutIdeal.Gen.frame m g, reference_ffn_out,
    fun m g _ => Cert.KernelQkv.Gen.frame m g, fun m g _ => Cert.KernelQkvIdeal.Gen.frame m g, reference_qkv,
    fun m g _ => Cert.KernelGlu.Gen.frame m g, fun m g _ => Cert.KernelGluIdeal.Gen.frame m g, reference_glu,
    fun m g _ => Cert.KernelGates.Gen.frame m g, fun m g _ => Cert.KernelGatesIdeal.Gen.frame m g, reference_gates,
    IdealRules.named_const.statement _ _ _ _ _ rfl, algebraic,
    trivial, algebraic_merge, trivial, algebraic_mixout, trivial, algebraic_ffn_in, trivial, algebraic_ffn_out, trivial, algebraic_qkv, trivial, algebraic_glu, trivial, algebraic_gates⟩

end Cert.Proof

end
